-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_points [hPre_finite_points : Cert.Pre_finite_points.Facts] (m : (ℓ : Loc Cert.KernelIdeal.nD Cert.KernelIdeal.τ Cert.KernelIdeal.sig) → Buf (Elt Ideal) ℓ) : Prop :=
  ∀ c : Dev Cert.KernelIdeal.nD,
    (Cert.Pre_finite_points.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_points [hPre_finite_points : Cert.Pre_finite_points.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_points.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite_points [hKernelIdeal : Cert.KernelIdeal.Facts] [hPre_finite_points : Cert.Pre_finite_points.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_points m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite_points [hReferenceIdeal : Cert.ReferenceIdeal.Facts] [hPre_finite_points : Cert.Pre_finite_points.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_points m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "far" .f32 0x7F61B1E6#32 ⊤
  ∧ IdealRules.named_const.Statement Cert.KernelIdeal.κ "inv_pi" .f32 0x3EA2F983#32 ((Real.pi⁻¹ : ℝ) : EReal)
  ∧ IdealRules.named_const.Statement Cert.KernelIdeal.κ "inv_two_pi" .f32 0x3E22F983#32 (((2 * Real.pi)⁻¹ : ℝ) : EReal)

def algebraic_KernelIdeal_ReferenceIdeal_pre_finite_points [hKernelIdeal : Cert.KernelIdeal.Facts] [hReferenceIdeal : Cert.ReferenceIdeal.Facts] [hPre_finite_points : Cert.Pre_finite_points.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_points m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v221) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_points : Cert.Pre_finite_points.Facts),
    quiescent_Kernel (hKernel := hKernel)
    ∧ quiescent_KernelIdeal (hKernelIdeal := hKernelIdeal)
    ∧ quiescent_KernelIdeal_pre_finite_points (hKernelIdeal := hKernelIdeal) (hPre_finite_points := hPre_finite_points)
    ∧ quiescent_ReferenceIdeal (hReferenceIdeal := hReferenceIdeal)
    ∧ quiescent_ReferenceIdeal_pre_finite_points (hReferenceIdeal := hReferenceIdeal) (hPre_finite_points := hPre_finite_points)
    ∧ preserves_Kernel_KernelIdeal
    ∧ algebraic_KernelIdeal_ReferenceIdeal_pre_finite_points (hKernelIdeal := hKernelIdeal) (hReferenceIdeal := hReferenceIdeal) (hPre_finite_points := hPre_finite_points)
-- ==== Pre_finite_points.lean ====
abbrev S4x3x4096 : Shape := ⟨3, ![4, 3, 4096]⟩
abbrev S9x9 : Shape := ⟨2, ![9, 9]⟩
abbrev S9 : Shape := ⟨1, ![9]⟩
abbrev S_ : Shape := ⟨0, ![]⟩

class Facts : Prop where
  bcast_S_S4x3x4096 : S_.BroadcastsInDim S4x3x4096 (![] : Fin 0 → Fin S4x3x4096.rank)
  reducesTo_S4x3x4096_S_d0_1_2 : S4x3x4096.ReducesTo [0, 1, 2] S_
  h_S_ : 0 < S_.numel

variable [Facts]

def fn {F : FTy → Type} [FloatOps F] (main_arg0 : FVec F S4x3x4096 .f32) (main_arg1 : FVec F S9x9 .f32) (main_arg2 : FVec F S9 .f32) (main_arg3 : FVec F S9 .f32) (main_arg4 : FVec F S9x9 .f32) (main_arg5 : FVec F S9 .f32) (main_arg6 : FVec F S9 .f32) (main_arg7 : FVec F S9 .f32) (main_arg8 : FVec F S9x9 .f32) (main_arg9 : FVec F S9 .f32) : IVec S_ 1 :=
  let main_v0 : FVec F S4x3x4096 .f32 := Host.absf main_arg0
  let main_cst : FVec F S_ .f32 := constant S_ .f32 0x7F800000#32
  let main_v1 : FVec F S4x3x4096 .f32 := broadcastInDim S4x3x4096 ![] bcast_S_S4x3x4096 main_cst
  let main_v2 : IVec S4x3x4096 1 := cmpf .olt main_v0 main_v1
  let main_c : IVec S_ 1 := constantI S_ 1 1#1
  let main_v3 : IVec S_ 1 := (fun x v => Host.reduce IntOp.andi x v reducesTo_S4x3x4096_S_d0_1_2 h_S_) main_v2 main_c
  main_v3
-- ==== Kernel.lean ====
abbrev S4x3x4096 : Shape := ⟨3, ![4, 3, 4096]⟩
abbrev S9x9 : Shape := ⟨2, ![9, 9]⟩
abbrev S9 : Shape := ⟨1, ![9]⟩
abbrev S9x4x8x4096 : Shape := ⟨4, ![9, 4, 8, 4096]⟩
abbrev S1x3x4096 : Shape := ⟨3, ![1, 3, 4096]⟩
abbrev S1x3x256 : Shape := ⟨3, ![1, 3, 256]⟩
abbrev S9x1x8x256 : Shape := ⟨4, ![9, 1, 8, 256]⟩
abbrev S8x128 : Shape := ⟨2, ![8, 128]⟩
abbrev S3x4096 : Shape := ⟨2, ![3, 4096]⟩
abbrev S4096 : Shape := ⟨1, ![4096]⟩
abbrev S1x4096 : Shape := ⟨2, ![1, 4096]⟩
abbrev S3x256 : Shape := ⟨2, ![3, 256]⟩
abbrev S256 : Shape := ⟨1, ![256]⟩
abbrev S1x256 : Shape := ⟨2, ![1, 256]⟩
abbrev S256x1 : Shape := ⟨2, ![256, 1]⟩
abbrev S256x4096 : Shape := ⟨2, ![256, 4096]⟩
abbrev S9x4096 : Shape := ⟨2, ![9, 4096]⟩
abbrev S4096x9 : Shape := ⟨2, ![4096, 9]⟩
abbrev S256x9 : Shape := ⟨2, ![256, 9]⟩
abbrev S256x3 : Shape := ⟨2, ![256, 3]⟩
abbrev S8x256 : Shape := ⟨2, ![8, 256]⟩
abbrev S2x256 : Shape := ⟨2, ![2, 256]⟩
abbrev S4x256 : Shape := ⟨2, ![4, 256]⟩
abbrev S5x256 : Shape := ⟨2, ![5, 256]⟩
abbrev S6x256 : Shape := ⟨2, ![6, 256]⟩
abbrev S7x256 : Shape := ⟨2, ![7, 256]⟩
abbrev S1x1x8x256 : Shape := ⟨4, ![1, 1, 8, 256]⟩
abbrev S9x131072 : Shape := ⟨2, ![9, 131072]⟩
abbrev S9x1 : Shape := ⟨2, ![9, 1]⟩
abbrev S4x9x4096 : Shape := ⟨3, ![4, 9, 4096]⟩
abbrev S1x9x4096 : Shape := ⟨3, ![1, 9, 4096]⟩

abbrev nBuf : Space → Nat
  | .hbm => 19
  | .vmem => 18
  | .smem => 0
  | _ => 0

abbrev bufTy : (tb : Table) → Fin (tcTables nBuf tb) → BufTy
  | .hbm, ⟨0, _⟩ => ⟨S4x3x4096, .f32⟩
  | .hbm, ⟨1, _⟩ => ⟨S9x9, .f32⟩
  | .hbm, ⟨2, _⟩ => ⟨S9, .f32⟩
  | .hbm, ⟨3, _⟩ => ⟨S9, .f32⟩
  | .hbm, ⟨4, _⟩ => ⟨S9x9, .f32⟩
  | .hbm, ⟨5, _⟩ => ⟨S9, .f32⟩
  | .hbm, ⟨6, _⟩ => ⟨S9, .f32⟩
  | .hbm, ⟨7, _⟩ => ⟨S9, .f32⟩
  | .hbm, ⟨8, _⟩ => ⟨S9x9, .f32⟩
  | .hbm, ⟨9, _⟩ => ⟨S9, .f32⟩
  | .hbm, ⟨10, _⟩ => ⟨S9x4x8x4096, .f32⟩
  | .hbm, ⟨11, _⟩ => ⟨S9x131072, .f32⟩
  | .hbm, ⟨12, _⟩ => ⟨S9x1, .f32⟩
  | .hbm, ⟨13, _⟩ => ⟨S9x1, .f32⟩
  | .hbm, ⟨14, _⟩ => ⟨S9x1, .f32⟩
  | .hbm, ⟨15, _⟩ => ⟨S9x1, .f32⟩
  | .hbm, ⟨16, _⟩ => ⟨S9x1, .f32⟩
  | .hbm, ⟨17, _⟩ => ⟨S9x1, .f32⟩
  | .hbm, ⟨18, _⟩ => ⟨S4x9x4096, .f32⟩
  | .local _ .vmem, ⟨0, _⟩ => ⟨S1x3x4096, .f32⟩
  | .local _ .vmem, ⟨1, _⟩ => ⟨S1x3x4096, .f32⟩
  | .local _ .vmem, ⟨2, _⟩ => ⟨S1x3x256, .f32⟩
  | .local _ .vmem, ⟨3, _⟩ => ⟨S1x3x256, .f32⟩
  | .local _ .vmem, ⟨4, _⟩ => ⟨S9x1x8x256, .f32⟩
  | .local _ .vmem, ⟨5, _⟩ => ⟨S9x1x8x256, .f32⟩
  | .local _ .vmem, ⟨6, _⟩ => ⟨S8x128, .f32⟩
  | .local _ .vmem, ⟨7, _⟩ => ⟨S9x131072, .f32⟩
  | .local _ .vmem, ⟨8, _⟩ => ⟨S9x9, .f32⟩
  | .local _ .vmem, ⟨9, _⟩ => ⟨S9x1, .f32⟩
  | .local _ .vmem, ⟨10, _⟩ => ⟨S9x1, .f32⟩
  | .local _ .vmem, ⟨11, _⟩ => ⟨S9x9, .f32⟩
  | .local _ .vmem, ⟨12, _⟩ => ⟨S9x1, .f32⟩
  | .local _ .vmem, ⟨13, _⟩ => ⟨S9x1, .f32⟩
  | .local _ .vmem, ⟨14, _⟩ => ⟨S9x1, .f32⟩
  | .local _ .vmem, ⟨15, _⟩ => ⟨S9x9, .f32⟩
  | .local _ .vmem, ⟨16, _⟩ => ⟨S9x1, .f32⟩
  | .local _ .vmem, ⟨17, _⟩ => ⟨S4x9x4096, .f32⟩
  | _, _ => ⟨S4x3x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg8_0 : Ref sig .tc := ⟨.vmem, 15, rfl⟩
abbrev cc1_stg9_0 : Ref sig .tc := ⟨.vmem, 16, rfl⟩
abbrev cc1_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem8_0 : DmaSem sig := 14
abbrev cc1_sem9_0 : DmaSem sig := 15
abbrev cc1_sem10_0 : DmaSem sig := 16

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

abbrev stage0_0 : Fin 2 → Memref sig .tc .vmem S1x3x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x3x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S9x1x8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := .none

abbrev stage1_0 : Fin 1 → Memref sig .tc .vmem S9x131072 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S9x9 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S9x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S9x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S9x9 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S9x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S9x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S9x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S9x9 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S9x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S4x9x4096 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
-- ==== KernelIdeal.lean ====
variable {F : FTy → Type} [FloatOps F] [Named F]
def κ : String → Option EReal := fun
  | "far" => some ⊤
  | "inv_pi" => some ((Real.pi⁻¹ : ℝ) : EReal)
  | "inv_two_pi" => some (((2 * Real.pi)⁻¹ : ℝ) : EReal)
  | _ => none
-- ==== ReferenceIdeal.lean ====
abbrev S4x3x4096 : Shape := ⟨3, ![4, 3, 4096]⟩
abbrev S9x9 : Shape := ⟨2, ![9, 9]⟩
abbrev S9 : Shape := ⟨1, ![9]⟩
abbrev S4x4096x3 : Shape := ⟨3, ![4, 4096, 3]⟩
abbrev S_ : Shape := ⟨0, ![]⟩
abbrev S4x4096 : Shape := ⟨2, ![4, 4096]⟩
abbrev S4x4096x1 : Shape := ⟨3, ![4, 4096, 1]⟩
abbrev S4x1x4096 : Shape := ⟨3, ![4, 1, 4096]⟩
abbrev S4x4096x4096 : Shape := ⟨3, ![4, 4096, 4096]⟩
abbrev S4x4096x9 : Shape := ⟨3, ![4, 4096, 9]⟩
abbrev S4x4096x9x1 : Shape := ⟨4, ![4, 4096, 9, 1]⟩
abbrev S4x4096x9x3 : Shape := ⟨4, ![4, 4096, 9, 3]⟩
abbrev S4x4096x8x3 : Shape := ⟨4, ![4, 4096, 8, 3]⟩
abbrev S4x4096x1x3 : Shape := ⟨4, ![4, 4096, 1, 3]⟩
abbrev S4x4096x8 : Shape := ⟨3, ![4, 4096, 8]⟩
abbrev S4x4096x8x1 : Shape := ⟨4, ![4, 4096, 8, 1]⟩
abbrev S1 : Shape := ⟨1, ![1]⟩
abbrev S1x1x1x1 : Shape := ⟨4, ![1, 1, 1, 1]⟩
abbrev S4x4096x8x1x3 : Shape := ⟨5, ![4, 4096, 8, 1, 3]⟩
abbrev S4x4096x7x1x3 : Shape := ⟨5, ![4, 4096, 7, 1, 3]⟩
abbrev S4x4096x1x1x3 : Shape := ⟨5, ![4, 4096, 1, 1, 3]⟩
abbrev S4x4096x8x3x3 : Shape := ⟨5, ![4, 4096, 8, 3, 3]⟩
abbrev S4x4096x1x1 : Shape := ⟨4, ![4, 4096, 1, 1]⟩
abbrev S4x4096x1x3x1 : Shape := ⟨5, ![4, 4096, 1, 3, 1]⟩
abbrev S1x1x1x1x1 : Shape := ⟨5, ![1, 1, 1, 1, 1]⟩
abbrev S4x4096x8x9 : Shape := ⟨4, ![4, 4096, 8, 9]⟩
abbrev S4x9x8x4096 : Shape := ⟨4, ![4, 9, 8, 4096]⟩
abbrev S4x8x4096x9 : Shape := ⟨4, ![4, 8, 4096, 9]⟩
abbrev S1x9x1x1 : Shape := ⟨4, ![1, 9, 1, 1]⟩
abbrev S4x9x4096 : Shape := ⟨3, ![4, 9, 4096]⟩

abbrev nBuf : Space → Nat
  | .hbm => 374
  | .vmem => 0
  | .smem => 0
  | _ => 0

abbrev hbmTy0_0 (i : Nat) : BufTy := match i % 128 with
  | 0 => ⟨S4x3x4096, .f32⟩
  | 1 => ⟨S9x9, .f32⟩
  | 2 => ⟨S9, .f32⟩
  | 3 => ⟨S9, .f32⟩
  | 4 => ⟨S9x9, .f32⟩
  | 5 => ⟨S9, .f32⟩
  | 6 => ⟨S9, .f32⟩
  | 7 => ⟨S9, .f32⟩
  | 8 => ⟨S9x9, .f32⟩
  | 9 => ⟨S9, .f32⟩
  | 10 => ⟨S4x4096x3, .f32⟩
  | 11 => ⟨S4x4096x3, .f32⟩
  | 12 => ⟨S_, .f32⟩
  | 13 => ⟨S4x4096, .f32⟩
  | 14 => ⟨S4x4096x1, .f32⟩
  | 15 => ⟨S4x1x4096, .f32⟩
  | 16 => ⟨S4x4096x4096, .f32⟩
  | 17 => ⟨S4x4096x4096, .f32⟩
  | 18 => ⟨S4x4096x4096, .f32⟩
  | 19 => ⟨S4x4096x4096, .f32⟩
  | 20 => ⟨S_, .f32⟩
  | 21 => ⟨S4x4096x4096, .f32⟩
  | 22 => ⟨S4x4096x4096, .f32⟩
  | 23 => ⟨S4x4096x4096, .f32⟩
  | 24 => ⟨S4x4096x4096, .f32⟩
  | 25 => ⟨S4x4096x9, .f32⟩
  | 26 => ⟨S4x4096x9, .i32⟩
  | 27 => ⟨S_, .i32⟩
  | 28 => ⟨S4x4096x9, .i32⟩
  | 29 => ⟨S4x4096x9, .i1⟩
  | 30 => ⟨S_, .i32⟩
  | 31 => ⟨S4x4096x9, .i32⟩
  | 32 => ⟨S4x4096x9, .i32⟩
  | 33 => ⟨S4x4096x9, .i32⟩
  | 34 => ⟨S4x4096x9x1, .i32⟩
  | 35 => ⟨S4x4096x9x3, .f32⟩
  | 36 => ⟨S4x4096x8x3, .f32⟩
  | 37 => ⟨S4x4096x1x3, .f32⟩
  | 38 => ⟨S4x4096x8x3, .f32⟩
  | 39 => ⟨S4x4096x8x3, .f32⟩
  | 40 => ⟨S4x4096x8x3, .f32⟩
  | 41 => ⟨S_, .f32⟩
  | 42 => ⟨S4x4096x8, .f32⟩
  | 43 => ⟨S4x4096x8x1, .f32⟩
  | 44 => ⟨S4x4096x8x1, .f32⟩
  | 45 => ⟨S_, .f32⟩
  | 46 => ⟨S4x4096x8x1, .f32⟩
  | 47 => ⟨S4x4096x8x1, .i1⟩
  | 48 => ⟨S_, .f32⟩
  | 49 => ⟨S_, .f32⟩
  | 50 => ⟨S4x4096x8x1, .f32⟩
  | 51 => ⟨S4x4096x8x1, .f32⟩
  | 52 => ⟨S4x4096x8x1, .f32⟩
  | 53 => ⟨S4x4096x8x1, .f32⟩
  | 54 => ⟨S_, .f32⟩
  | 55 => ⟨S_, .f32⟩
  | 56 => ⟨S_, .f32⟩
  | 57 => ⟨S4x4096x8x1, .f32⟩
  | 58 => ⟨S4x4096x8x1, .f32⟩
  | 59 => ⟨S_, .f32⟩
  | 60 => ⟨S4x4096x8x1, .f32⟩
  | 61 => ⟨S4x4096x8x1, .f32⟩
  | 62 => ⟨S_, .f32⟩
  | 63 => ⟨S4x4096x8x1, .f32⟩
  | 64 => ⟨S4x4096x8x1, .i1⟩
  | 65 => ⟨S4x4096x8x1, .f32⟩
  | 66 => ⟨S_, .f32⟩
  | 67 => ⟨S_, .f32⟩
  | 68 => ⟨S4x4096x8x1, .f32⟩
  | 69 => ⟨S4x4096x8x1, .f32⟩
  | 70 => ⟨S4x4096x8x1, .f32⟩
  | 71 => ⟨S4x4096x8x1, .f32⟩
  | 72 => ⟨S4x4096x8x1, .f32⟩
  | 73 => ⟨S_, .f32⟩
  | 74 => ⟨S_, .f32⟩
  | 75 => ⟨S4x4096x8x1, .f32⟩
  | 76 => ⟨S4x4096x8x1, .f32⟩
  | 77 => ⟨S_, .f32⟩
  | 78 => ⟨S_, .f32⟩
  | 79 => ⟨S4x4096x8x1, .f32⟩
  | 80 => ⟨S4x4096x8x1, .f32⟩
  | 81 => ⟨S_, .f32⟩
  | 82 => ⟨S4x4096x8x1, .f32⟩
  | 83 => ⟨S4x4096x8x1, .f32⟩
  | 84 => ⟨S4x4096x8x3, .f32⟩
  | 85 => ⟨S4x4096x8x1, .f32⟩
  | 86 => ⟨S4x4096x8, .f32⟩
  | 87 => ⟨S4x4096x8, .i32⟩
  | 88 => ⟨S4x4096x8, .f32⟩
  | 89 => ⟨S4x4096x8, .i32⟩
  | 90 => ⟨S4x4096x8x1, .i32⟩
  | 91 => ⟨S_, .i32⟩
  | 92 => ⟨S4x4096x8x1, .i32⟩
  | 93 => ⟨S4x4096x8x1, .i1⟩
  | 94 => ⟨S_, .i32⟩
  | 95 => ⟨S4x4096x8x1, .i32⟩
  | 96 => ⟨S4x4096x8x1, .i32⟩
  | 97 => ⟨S4x4096x8x1, .i32⟩
  | 98 => ⟨S1, .i32⟩
  | 99 => ⟨S_, .i32⟩
  | 100 => ⟨S4x4096x8x1, .i32⟩
  | 101 => ⟨S4x4096x8x1, .i1⟩
  | 102 => ⟨S1x1x1x1, .i32⟩
  | 103 => ⟨S4x4096x8x1, .i32⟩
  | 104 => ⟨S4x4096x8x1, .i1⟩
  | 105 => ⟨S4x4096x8x1, .i1⟩
  | 106 => ⟨S_, .i1⟩
  | 107 => ⟨S4x4096x8, .i1⟩
  | 108 => ⟨S4x4096x8x3, .f32⟩
  | 109 => ⟨S4x4096x8x3, .i1⟩
  | 110 => ⟨S_, .f32⟩
  | 111 => ⟨S4x4096x8x3, .f32⟩
  | 112 => ⟨S4x4096x8x3, .f32⟩
  | 113 => ⟨S4x4096x8x1x3, .f32⟩
  | 114 => ⟨S4x4096x7x1x3, .f32⟩
  | 115 => ⟨S4x4096x1x1x3, .f32⟩
  | 116 => ⟨S4x4096x8x1x3, .f32⟩
  | 117 => ⟨S_, .f32⟩
  | 118 => ⟨S4x4096x8x1x3, .f32⟩
  | 119 => ⟨S4x4096x8x3x3, .f32⟩
  | 120 => ⟨S4x4096x8x1x3, .f32⟩
  | 121 => ⟨S4x4096x8x3, .f32⟩
  | 122 => ⟨S4x4096x8x1x3, .f32⟩
  | 123 => ⟨S4x4096x8x3, .f32⟩
  | 124 => ⟨S4x4096x8x3, .f32⟩
  | 125 => ⟨S4x4096x8x1x3, .f32⟩
  | 126 => ⟨S4x4096x8x3, .f32⟩
  | 127 => ⟨S4x4096x8x1x3, .f32⟩
  | _ => ⟨S4x3x4096, .f32⟩

abbrev hbmTy0_1 (i : Nat) : BufTy := match i % 128 with
  | 0 => ⟨S4x4096x8x3, .f32⟩
  | 1 => ⟨S4x4096x8x3, .f32⟩
  | 2 => ⟨S4x4096x8x1, .f32⟩
  | 3 => ⟨S4x4096x8, .f32⟩
  | 4 => ⟨S4x4096x8x1, .f32⟩
  | 5 => ⟨S4x4096x8, .f32⟩
  | 6 => ⟨S4x4096x8x1, .f32⟩
  | 7 => ⟨S4x4096x8, .f32⟩
  | 8 => ⟨S4x4096x8x1, .f32⟩
  | 9 => ⟨S4x4096x8, .f32⟩
  | 10 => ⟨S4x4096x8x1, .f32⟩
  | 11 => ⟨S4x4096x8, .f32⟩
  | 12 => ⟨S4x4096x8x1, .f32⟩
  | 13 => ⟨S4x4096x8, .f32⟩
  | 14 => ⟨S4x4096x8, .f32⟩
  | 15 => ⟨S4x4096x8, .f32⟩
  | 16 => ⟨S4x4096x8, .f32⟩
  | 17 => ⟨S4x4096x8, .f32⟩
  | 18 => ⟨S4x4096x8, .f32⟩
  | 19 => ⟨S4x4096x8, .f32⟩
  | 20 => ⟨S4x4096x8, .f32⟩
  | 21 => ⟨S4x4096x8, .f32⟩
  | 22 => ⟨S4x4096x8, .f32⟩
  | 23 => ⟨S4x4096x8x1, .f32⟩
  | 24 => ⟨S4x4096x8x1, .f32⟩
  | 25 => ⟨S4x4096x8x1, .f32⟩
  | 26 => ⟨S4x4096x8x3, .f32⟩
  | 27 => ⟨S4x4096x8x3, .f32⟩
  | 28 => ⟨S_, .f32⟩
  | 29 => ⟨S4x4096x8, .f32⟩
  | 30 => ⟨S4x4096x8x1, .f32⟩
  | 31 => ⟨S4x4096x8x1, .f32⟩
  | 32 => ⟨S4x4096x8x3, .f32⟩
  | 33 => ⟨S4x4096x8x3, .f32⟩
  | 34 => ⟨S4x4096x1x1, .f32⟩
  | 35 => ⟨S4x4096x1, .f32⟩
  | 36 => ⟨S_, .f32⟩
  | 37 => ⟨S4x4096x1, .f32⟩
  | 38 => ⟨S4x4096x1, .i1⟩
  | 39 => ⟨S4x4096x1, .f32⟩
  | 40 => ⟨S_, .f32⟩
  | 41 => ⟨S4x4096x1, .f32⟩
  | 42 => ⟨S4x4096x1, .f32⟩
  | 43 => ⟨S_, .f32⟩
  | 44 => ⟨S4x4096x1, .f32⟩
  | 45 => ⟨S4x4096x1, .f32⟩
  | 46 => ⟨S4x4096x1x1, .f32⟩
  | 47 => ⟨S4x4096x8x3, .f32⟩
  | 48 => ⟨S4x4096x8x3, .f32⟩
  | 49 => ⟨S_, .f32⟩
  | 50 => ⟨S4x4096x8x3, .f32⟩
  | 51 => ⟨S_, .f32⟩
  | 52 => ⟨S4x4096x8x3, .f32⟩
  | 53 => ⟨S4x4096x8x3, .f32⟩
  | 54 => ⟨S4x4096x8x3, .f32⟩
  | 55 => ⟨S_, .f32⟩
  | 56 => ⟨S4x4096x8, .f32⟩
  | 57 => ⟨S4x4096x8x1, .f32⟩
  | 58 => ⟨S4x4096x8x1, .f32⟩
  | 59 => ⟨S_, .f32⟩
  | 60 => ⟨S4x4096x8x1, .f32⟩
  | 61 => ⟨S4x4096x8x1, .i1⟩
  | 62 => ⟨S_, .f32⟩
  | 63 => ⟨S_, .f32⟩
  | 64 => ⟨S4x4096x8x1, .f32⟩
  | 65 => ⟨S4x4096x8x1, .f32⟩
  | 66 => ⟨S4x4096x8x1, .f32⟩
  | 67 => ⟨S4x4096x8x1, .f32⟩
  | 68 => ⟨S_, .f32⟩
  | 69 => ⟨S_, .f32⟩
  | 70 => ⟨S_, .f32⟩
  | 71 => ⟨S4x4096x8x1, .f32⟩
  | 72 => ⟨S4x4096x8x1, .f32⟩
  | 73 => ⟨S_, .f32⟩
  | 74 => ⟨S4x4096x8x1, .f32⟩
  | 75 => ⟨S4x4096x8x1, .f32⟩
  | 76 => ⟨S_, .f32⟩
  | 77 => ⟨S4x4096x8x1, .f32⟩
  | 78 => ⟨S4x4096x8x1, .i1⟩
  | 79 => ⟨S4x4096x8x1, .f32⟩
  | 80 => ⟨S_, .f32⟩
  | 81 => ⟨S_, .f32⟩
  | 82 => ⟨S4x4096x8x1, .f32⟩
  | 83 => ⟨S4x4096x8x1, .f32⟩
  | 84 => ⟨S4x4096x8x1, .f32⟩
  | 85 => ⟨S4x4096x8x1, .f32⟩
  | 86 => ⟨S4x4096x8x1, .f32⟩
  | 87 => ⟨S_, .f32⟩
  | 88 => ⟨S_, .f32⟩
  | 89 => ⟨S4x4096x8x1, .f32⟩
  | 90 => ⟨S4x4096x8x1, .f32⟩
  | 91 => ⟨S_, .f32⟩
  | 92 => ⟨S_, .f32⟩
  | 93 => ⟨S4x4096x8x1, .f32⟩
  | 94 => ⟨S4x4096x8x1, .f32⟩
  | 95 => ⟨S_, .f32⟩
  | 96 => ⟨S4x4096x8x1, .f32⟩
  | 97 => ⟨S4x4096x8x1, .f32⟩
  | 98 => ⟨S4x4096x8x3, .f32⟩
  | 99 => ⟨S4x4096x8x3, .i1⟩
  | 100 => ⟨S4x4096x8x3, .i32⟩
  | 101 => ⟨S_, .i32⟩
  | 102 => ⟨S4x4096x8, .i32⟩
  | 103 => ⟨S_, .i32⟩
  | 104 => ⟨S4x4096x8, .i32⟩
  | 105 => ⟨S4x4096x8, .i1⟩
  | 106 => ⟨S4x4096x8, .i32⟩
  | 107 => ⟨S4x4096x8, .i32⟩
  | 108 => ⟨S4x4096x8, .i32⟩
  | 109 => ⟨S4x4096x8, .i32⟩
  | 110 => ⟨S4x4096x1, .i32⟩
  | 111 => ⟨S4x4096, .i32⟩
  | 112 => ⟨S4x4096x1x1, .i32⟩
  | 113 => ⟨S4x4096x1x3, .i32⟩
  | 114 => ⟨S_, .i32⟩
  | 115 => ⟨S4x4096x1x3, .i32⟩
  | 116 => ⟨S4x4096x1x3, .i1⟩
  | 117 => ⟨S_, .i32⟩
  | 118 => ⟨S4x4096x1x3, .i32⟩
  | 119 => ⟨S4x4096x1x3, .i32⟩
  | 120 => ⟨S4x4096x1x3, .i32⟩
  | 121 => ⟨S4x4096x1x3x1, .i32⟩
  | 122 => ⟨S1, .i32⟩
  | 123 => ⟨S_, .i32⟩
  | 124 => ⟨S4x4096x1x3x1, .i32⟩
  | 125 => ⟨S4x4096x1x3x1, .i1⟩
  | 126 => ⟨S1x1x1x1x1, .i32⟩
  | 127 => ⟨S4x4096x1x3x1, .i32⟩
  | _ => ⟨S4x3x4096, .f32⟩

abbrev hbmTy0_2 (i : Nat) : BufTy := match i % 128 with
  | 0 => ⟨S4x4096x1x3x1, .i1⟩
  | 1 => ⟨S4x4096x1x3x1, .i1⟩
  | 2 => ⟨S_, .i1⟩
  | 3 => ⟨S4x4096x1x3, .i1⟩
  | 4 => ⟨S4x4096x1x3, .f32⟩
  | 5 => ⟨S_, .f32⟩
  | 6 => ⟨S4x4096x1x3, .f32⟩
  | 7 => ⟨S4x4096x1x3, .f32⟩
  | 8 => ⟨S_, .i32⟩
  | 9 => ⟨S4x4096x1x3, .i32⟩
  | 10 => ⟨S4x4096x1x3, .i1⟩
  | 11 => ⟨S_, .i32⟩
  | 12 => ⟨S4x4096x1x3, .i32⟩
  | 13 => ⟨S4x4096x1x3, .i32⟩
  | 14 => ⟨S4x4096x1x3, .i32⟩
  | 15 => ⟨S4x4096x1x3x1, .i32⟩
  | 16 => ⟨S1, .i32⟩
  | 17 => ⟨S_, .i32⟩
  | 18 => ⟨S4x4096x1x3x1, .i32⟩
  | 19 => ⟨S4x4096x1x3x1, .i1⟩
  | 20 => ⟨S1x1x1x1x1, .i32⟩
  | 21 => ⟨S4x4096x1x3x1, .i32⟩
  | 22 => ⟨S4x4096x1x3x1, .i1⟩
  | 23 => ⟨S4x4096x1x3x1, .i1⟩
  | 24 => ⟨S_, .i1⟩
  | 25 => ⟨S4x4096x1x3, .i1⟩
  | 26 => ⟨S4x4096x1x3, .f32⟩
  | 27 => ⟨S_, .f32⟩
  | 28 => ⟨S4x4096x1x3, .f32⟩
  | 29 => ⟨S4x4096x1x3, .f32⟩
  | 30 => ⟨S4x4096x8x1, .i1⟩
  | 31 => ⟨S4x4096x8x3, .f32⟩
  | 32 => ⟨S4x4096x8x3, .i1⟩
  | 33 => ⟨S4x4096x8x3, .f32⟩
  | 34 => ⟨S4x4096x8x1, .i1⟩
  | 35 => ⟨S4x4096x8x3, .f32⟩
  | 36 => ⟨S4x4096x8x3, .i1⟩
  | 37 => ⟨S4x4096x8x3, .f32⟩
  | 38 => ⟨S4x4096x8x9, .f32⟩
  | 39 => ⟨S4x9x8x4096, .f32⟩
  | 40 => ⟨S4x8x4096x9, .f32⟩
  | 41 => ⟨S4x9x8x4096, .f32⟩
  | 42 => ⟨S_, .f32⟩
  | 43 => ⟨S9, .f32⟩
  | 44 => ⟨S1x9x1x1, .f32⟩
  | 45 => ⟨S_, .f32⟩
  | 46 => ⟨S1x9x1x1, .f32⟩
  | 47 => ⟨S1x9x1x1, .f32⟩
  | 48 => ⟨S4x9x8x4096, .f32⟩
  | 49 => ⟨S4x9x8x4096, .f32⟩
  | 50 => ⟨S4x9x8x4096, .f32⟩
  | 51 => ⟨S_, .f32⟩
  | 52 => ⟨S9, .f32⟩
  | 53 => ⟨S1x9x1x1, .f32⟩
  | 54 => ⟨S_, .f32⟩
  | 55 => ⟨S1x9x1x1, .f32⟩
  | 56 => ⟨S1x9x1x1, .f32⟩
  | 57 => ⟨S4x9x8x4096, .f32⟩
  | 58 => ⟨S4x9x8x4096, .f32⟩
  | 59 => ⟨S_, .f32⟩
  | 60 => ⟨S1x9x1x1, .f32⟩
  | 61 => ⟨S1x9x1x1, .f32⟩
  | 62 => ⟨S1x9x1x1, .f32⟩
  | 63 => ⟨S4x9x8x4096, .f32⟩
  | 64 => ⟨S4x9x8x4096, .f32⟩
  | 65 => ⟨S1x9x1x1, .f32⟩
  | 66 => ⟨S4x9x8x4096, .f32⟩
  | 67 => ⟨S4x9x8x4096, .f32⟩
  | 68 => ⟨S1x9x1x1, .f32⟩
  | 69 => ⟨S4x9x8x4096, .f32⟩
  | 70 => ⟨S4x9x8x4096, .f32⟩
  | 71 => ⟨S_, .f32⟩
  | 72 => ⟨S4x9x8x4096, .f32⟩
  | 73 => ⟨S4x9x8x4096, .f32⟩
  | 74 => ⟨S4x8x4096x9, .f32⟩
  | 75 => ⟨S4x9x8x4096, .f32⟩
  | 76 => ⟨S1x9x1x1, .f32⟩
  | 77 => ⟨S4x9x8x4096, .f32⟩
  | 78 => ⟨S4x9x8x4096, .f32⟩
  | 79 => ⟨S_, .f32⟩
  | 80 => ⟨S9, .f32⟩
  | 81 => ⟨S1x9x1x1, .f32⟩
  | 82 => ⟨S_, .f32⟩
  | 83 => ⟨S1x9x1x1, .f32⟩
  | 84 => ⟨S1x9x1x1, .f32⟩
  | 85 => ⟨S4x9x8x4096, .f32⟩
  | 86 => ⟨S4x9x8x4096, .f32⟩
  | 87 => ⟨S4x9x8x4096, .f32⟩
  | 88 => ⟨S_, .f32⟩
  | 89 => ⟨S9, .f32⟩
  | 90 => ⟨S1x9x1x1, .f32⟩
  | 91 => ⟨S_, .f32⟩
  | 92 => ⟨S1x9x1x1, .f32⟩
  | 93 => ⟨S1x9x1x1, .f32⟩
  | 94 => ⟨S4x9x8x4096, .f32⟩
  | 95 => ⟨S4x9x8x4096, .f32⟩
  | 96 => ⟨S_, .f32⟩
  | 97 => ⟨S1x9x1x1, .f32⟩
  | 98 => ⟨S1x9x1x1, .f32⟩
  | 99 => ⟨S1x9x1x1, .f32⟩
  | 100 => ⟨S4x9x8x4096, .f32⟩
  | 101 => ⟨S4x9x8x4096, .f32⟩
  | 102 => ⟨S1x9x1x1, .f32⟩
  | 103 => ⟨S4x9x8x4096, .f32⟩
  | 104 => ⟨S4x9x8x4096, .f32⟩
  | 105 => ⟨S1x9x1x1, .f32⟩
  | 106 => ⟨S4x9x8x4096, .f32⟩
  | 107 => ⟨S4x9x8x4096, .f32⟩
  | 108 => ⟨S_, .f32⟩
  | 109 => ⟨S4x9x8x4096, .f32⟩
  | 110 => ⟨S4x9x8x4096, .f32⟩
  | 111 => ⟨S4x8x4096x9, .f32⟩
  | 112 => ⟨S4x9x8x4096, .f32⟩
  | 113 => ⟨S1x9x1x1, .f32⟩
  | 114 => ⟨S4x9x8x4096, .f32⟩
  | 115 => ⟨S4x9x8x4096, .f32⟩
  | 116 => ⟨S_, .f32⟩
  | 117 => ⟨S4x9x4096, .f32⟩
  | _ => ⟨S4x3x4096, .f32⟩

abbrev hbmTy (i : Nat) : BufTy := match i / 128 with
  | 0 => hbmTy0_0 i
  | 1 => hbmTy0_1 i
  | 2 => hbmTy0_2 i
  | _ => ⟨S4x3x4096, .f32⟩

abbrev bufTy : (tb : Table) → Fin (tcTables nBuf tb) → BufTy
  | .hbm, ⟨i, _⟩ => hbmTy i
  | _, _ => ⟨S4x3x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_values : Ref sig .tc := ⟨.hbm, 25, rfl⟩
abbrev main_indices : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_1 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_2 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_3 : Ref sig .tc := ⟨.hbm, 45, rfl⟩
abbrev main_v28 : Ref sig .tc := ⟨.hbm, 46, rfl⟩
abbrev main_v29 : Ref sig .tc := ⟨.hbm, 47, rfl⟩
abbrev main_cst_4 : Ref sig .tc := ⟨.hbm, 48, rfl⟩
abbrev main_call0_v0 : Ref sig .tc := ⟨.hbm, 49, rfl⟩
abbrev main_call0_v1 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_5 : Ref sig .tc := ⟨.hbm, 54, rfl⟩
abbrev main_cst_6 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_v33 : Ref sig .tc := ⟨.hbm, 61, rfl⟩
abbrev main_cst_7 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_cst_8 : Ref sig .tc := ⟨.hbm, 66, rfl⟩
abbrev main_call2_v0 : Ref sig .tc := ⟨.hbm, 67, rfl⟩
abbrev main_call2_v1 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_cst_9 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_cst_10 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_cst_11 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_call3_v0 : Ref sig .tc := ⟨.hbm, 87, rfl⟩
abbrev main_call3_v1_0 : Ref sig .tc := ⟨.hbm, 88, rfl⟩
abbrev main_v52 : Ref sig .tc := ⟨.hbm, 89, rfl⟩
abbrev main_v53 : Ref sig .tc := ⟨.hbm, 90, rfl⟩
abbrev main_call4_c : Ref sig .tc := ⟨.hbm, 91, rfl⟩
abbrev main_call4_v0 : Ref sig .tc := ⟨.hbm, 92, rfl⟩
abbrev main_call4_v1 : Ref sig .tc := ⟨.hbm, 93, rfl⟩
abbrev main_call4_c_0 : Ref sig .tc := ⟨.hbm, 94, rfl⟩
abbrev main_call4_v2 : Ref sig .tc := ⟨.hbm, 95, rfl⟩
abbrev main_call4_v3 : Ref sig .tc := ⟨.hbm, 96, rfl⟩
abbrev main_call4_v4 : Ref sig .tc := ⟨.hbm, 97, rfl⟩
abbrev main_call4_c_1 : Ref sig .tc := ⟨.hbm, 98, rfl⟩
abbrev main_call4_c_2 : Ref sig .tc := ⟨.hbm, 99, rfl⟩
abbrev main_call4_v5 : Ref sig .tc := ⟨.hbm, 100, rfl⟩
abbrev main_call4_v6 : Ref sig .tc := ⟨.hbm, 101, rfl⟩
abbrev main_call4_v7 : Ref sig .tc := ⟨.hbm, 102, rfl⟩
abbrev main_call4_v8 : Ref sig .tc := ⟨.hbm, 103, rfl⟩
abbrev main_call4_v9 : Ref sig .tc := ⟨.hbm, 104, rfl⟩
abbrev main_call4_v10 : Ref sig .tc := ⟨.hbm, 105, rfl⟩
abbrev main_call4_c_3 : Ref sig .tc := ⟨.hbm, 106, rfl⟩
abbrev main_call4_v11 : Ref sig .tc := ⟨.hbm, 107, rfl⟩
abbrev main_call4_v12 : Ref sig .tc := ⟨.hbm, 108, rfl⟩
abbrev main_call4_v13 : Ref sig .tc := ⟨.hbm, 109, rfl⟩
abbrev main_call4_cst : Ref sig .tc := ⟨.hbm, 110, rfl⟩
abbrev main_call4_v14 : Ref sig .tc := ⟨.hbm, 111, rfl⟩
abbrev main_v54 : Ref sig .tc := ⟨.hbm, 112, rfl⟩
abbrev main_v55 : Ref sig .tc := ⟨.hbm, 113, rfl⟩
abbrev main_call5_v0 : Ref sig .tc := ⟨.hbm, 114, rfl⟩
abbrev main_call5_v1 : Ref sig .tc := ⟨.hbm, 115, rfl⟩
abbrev main_v56 : Ref sig .tc := ⟨.hbm, 116, rfl⟩
abbrev main_cst_12 : Ref sig .tc := ⟨.hbm, 117, rfl⟩
abbrev main_v57 : Ref sig .tc := ⟨.hbm, 118, rfl⟩
abbrev main_v58 : Ref sig .tc := ⟨.hbm, 119, rfl⟩
abbrev main_v59 : Ref sig .tc := ⟨.hbm, 120, rfl⟩
abbrev main_v60 : Ref sig .tc := ⟨.hbm, 121, rfl⟩
abbrev main_v61 : Ref sig .tc := ⟨.hbm, 122, rfl⟩
abbrev main_v62 : Ref sig .tc := ⟨.hbm, 123, rfl⟩
abbrev main_v63 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_v67 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_v71 : Ref sig .tc := ⟨.hbm, 132, rfl⟩
abbrev main_v72 : Ref sig .tc := ⟨.hbm, 133, rfl⟩
abbrev main_v73 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_v82 : Ref sig .tc := ⟨.hbm, 143, rfl⟩
abbrev main_v83 : Ref sig .tc := ⟨.hbm, 144, rfl⟩
abbrev main_v84 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_v88 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev main_call6_v0 : Ref sig .tc := ⟨.hbm, 155, rfl⟩
abbrev main_call6_cst : Ref sig .tc := ⟨.hbm, 156, rfl⟩
abbrev main_call6_v1 : Ref sig .tc := ⟨.hbm, 157, rfl⟩
abbrev main_call6_v2 : Ref sig .tc := ⟨.hbm, 158, rfl⟩
abbrev main_v94 : Ref sig .tc := ⟨.hbm, 159, rfl⟩
abbrev main_v95 : Ref sig .tc := ⟨.hbm, 160, rfl⟩
abbrev main_v96 : Ref sig .tc := ⟨.hbm, 161, rfl⟩
abbrev main_v97 : Ref sig .tc := ⟨.hbm, 162, rfl⟩
abbrev main_v98 : Ref sig .tc := ⟨.hbm, 163, rfl⟩
abbrev main_cst_13 : Ref sig .tc := ⟨.hbm, 164, rfl⟩
abbrev main_v99 : Ref sig .tc := ⟨.hbm, 165, rfl⟩
abbrev main_v100 : Ref sig .tc := ⟨.hbm, 166, rfl⟩
abbrev main_v101 : Ref sig .tc := ⟨.hbm, 167, rfl⟩
abbrev main_cst_14 : Ref sig .tc := ⟨.hbm, 168, rfl⟩
abbrev main_v102 : Ref sig .tc := ⟨.hbm, 169, rfl⟩
abbrev main_v103 : Ref sig .tc := ⟨.hbm, 170, rfl⟩
abbrev main_cst_15 : Ref sig .tc := ⟨.hbm, 171, rfl⟩
abbrev main_v104 : Ref sig .tc := ⟨.hbm, 172, rfl⟩
abbrev main_v105 : Ref sig .tc := ⟨.hbm, 173, rfl⟩
abbrev main_v106 : Ref sig .tc := ⟨.hbm, 174, rfl⟩
abbrev main_v107 : Ref sig .tc := ⟨.hbm, 175, rfl⟩
abbrev main_v108 : Ref sig .tc := ⟨.hbm, 176, rfl⟩
abbrev main_cst_16 : Ref sig .tc := ⟨.hbm, 177, rfl⟩
abbrev main_v109 : Ref sig .tc := ⟨.hbm, 178, rfl⟩
abbrev main_cst_17 : Ref sig .tc := ⟨.hbm, 179, rfl⟩
abbrev main_v110 : Ref sig .tc := ⟨.hbm, 180, rfl⟩
abbrev main_v111 : Ref sig .tc := ⟨.hbm, 181, rfl⟩
abbrev main_v112 : Ref sig .tc := ⟨.hbm, 182, rfl⟩
abbrev main_cst_18 : Ref sig .tc := ⟨.hbm, 183, rfl⟩
abbrev main_v113 : Ref sig .tc := ⟨.hbm, 184, rfl⟩
abbrev main_v114 : Ref sig .tc := ⟨.hbm, 185, rfl⟩
abbrev main_v115 : Ref sig .tc := ⟨.hbm, 186, rfl⟩
abbrev main_cst_19 : Ref sig .tc := ⟨.hbm, 187, rfl⟩
abbrev main_v116 : Ref sig .tc := ⟨.hbm, 188, rfl⟩
abbrev main_v117 : Ref sig .tc := ⟨.hbm, 189, rfl⟩
abbrev main_cst_20 : Ref sig .tc := ⟨.hbm, 190, rfl⟩
abbrev main_call7_v0 : Ref sig .tc := ⟨.hbm, 191, rfl⟩
abbrev main_call7_v1 : Ref sig .tc := ⟨.hbm, 192, rfl⟩
abbrev main_v118 : Ref sig .tc := ⟨.hbm, 193, rfl⟩
abbrev main_v119 : Ref sig .tc := ⟨.hbm, 194, rfl⟩
abbrev main_v120 : Ref sig .tc := ⟨.hbm, 195, rfl⟩
abbrev main_cst_21 : Ref sig .tc := ⟨.hbm, 196, rfl⟩
abbrev main_cst_22 : Ref sig .tc := ⟨.hbm, 197, rfl⟩
abbrev main_call8_v0 : Ref sig .tc := ⟨.hbm, 198, rfl⟩
abbrev main_call8_v1 : Ref sig .tc := ⟨.hbm, 199, rfl⟩
abbrev main_call8_v2 : Ref sig .tc := ⟨.hbm, 200, rfl⟩
abbrev main_call8_v3 : Ref sig .tc := ⟨.hbm, 201, rfl⟩
abbrev main_call8_v4 : Ref sig .tc := ⟨.hbm, 202, rfl⟩
abbrev main_v121 : Ref sig .tc := ⟨.hbm, 203, rfl⟩
abbrev main_cst_23 : Ref sig .tc := ⟨.hbm, 204, rfl⟩
abbrev main_v122 : Ref sig .tc := ⟨.hbm, 205, rfl⟩
abbrev main_v123 : Ref sig .tc := ⟨.hbm, 206, rfl⟩
abbrev main_v124 : Ref sig .tc := ⟨.hbm, 207, rfl⟩
abbrev main_cst_24 : Ref sig .tc := ⟨.hbm, 208, rfl⟩
abbrev main_call9_v0 : Ref sig .tc := ⟨.hbm, 209, rfl⟩
abbrev main_call9_v1 : Ref sig .tc := ⟨.hbm, 210, rfl⟩
abbrev main_v125 : Ref sig .tc := ⟨.hbm, 211, rfl⟩
abbrev main_v126 : Ref sig .tc := ⟨.hbm, 212, rfl⟩
abbrev main_v127 : Ref sig .tc := ⟨.hbm, 213, rfl⟩
abbrev main_v128 : Ref sig .tc := ⟨.hbm, 214, rfl⟩
abbrev main_cst_25 : Ref sig .tc := ⟨.hbm, 215, rfl⟩
abbrev main_v129 : Ref sig .tc := ⟨.hbm, 216, rfl⟩
abbrev main_v130 : Ref sig .tc := ⟨.hbm, 217, rfl⟩
abbrev main_v131 : Ref sig .tc := ⟨.hbm, 218, rfl⟩
abbrev main_cst_26 : Ref sig .tc := ⟨.hbm, 219, rfl⟩
abbrev main_v132 : Ref sig .tc := ⟨.hbm, 220, rfl⟩
abbrev main_v133 : Ref sig .tc := ⟨.hbm, 221, rfl⟩
abbrev main_v134 : Ref sig .tc := ⟨.hbm, 222, rfl⟩
abbrev main_cst_27 : Ref sig .tc := ⟨.hbm, 223, rfl⟩
abbrev main_v135 : Ref sig .tc := ⟨.hbm, 224, rfl⟩
abbrev main_v136 : Ref sig .tc := ⟨.hbm, 225, rfl⟩
abbrev main_v137 : Ref sig .tc := ⟨.hbm, 226, rfl⟩
abbrev main_v138 : Ref sig .tc := ⟨.hbm, 227, rfl⟩
abbrev main_v139 : Ref sig .tc := ⟨.hbm, 228, rfl⟩
abbrev main_c_28 : Ref sig .tc := ⟨.hbm, 229, rfl⟩
abbrev main_v140 : Ref sig .tc := ⟨.hbm, 230, rfl⟩
abbrev main_c_29 : Ref sig .tc := ⟨.hbm, 231, rfl⟩
abbrev main_v141 : Ref sig .tc := ⟨.hbm, 232, rfl⟩
abbrev main_v142 : Ref sig .tc := ⟨.hbm, 233, rfl⟩
abbrev main_v143 : Ref sig .tc := ⟨.hbm, 234, rfl⟩
abbrev main_call10_v0 : Ref sig .tc := ⟨.hbm, 235, rfl⟩
abbrev main_call10_v1_0 : Ref sig .tc := ⟨.hbm, 236, rfl⟩
abbrev main_v144 : Ref sig .tc := ⟨.hbm, 237, rfl⟩
abbrev main_v145 : Ref sig .tc := ⟨.hbm, 238, rfl⟩
abbrev main_v146 : Ref sig .tc := ⟨.hbm, 239, rfl⟩
abbrev main_v147 : Ref sig .tc := ⟨.hbm, 240, rfl⟩
abbrev main_v148 : Ref sig .tc := ⟨.hbm, 241, rfl⟩
abbrev main_call11_c : Ref sig .tc := ⟨.hbm, 242, rfl⟩
abbrev main_call11_v0 : Ref sig .tc := ⟨.hbm, 243, rfl⟩
abbrev main_call11_v1 : Ref sig .tc := ⟨.hbm, 244, rfl⟩
abbrev main_call11_c_0 : Ref sig .tc := ⟨.hbm, 245, rfl⟩
abbrev main_call11_v2 : Ref sig .tc := ⟨.hbm, 246, rfl⟩
abbrev main_call11_v3 : Ref sig .tc := ⟨.hbm, 247, rfl⟩
abbrev main_call11_v4 : Ref sig .tc := ⟨.hbm, 248, rfl⟩
abbrev main_call11_v5 : Ref sig .tc := ⟨.hbm, 249, rfl⟩
abbrev main_call11_c_1 : Ref sig .tc := ⟨.hbm, 250, rfl⟩
abbrev main_call11_c_2 : Ref sig .tc := ⟨.hbm, 251, rfl⟩
abbrev main_call11_v6 : Ref sig .tc := ⟨.hbm, 252, rfl⟩
abbrev main_call11_v7 : Ref sig .tc := ⟨.hbm, 253, rfl⟩
abbrev main_call11_v8 : Ref sig .tc := ⟨.hbm, 254, rfl⟩
abbrev main_call11_v9 : Ref sig .tc := ⟨.hbm, 255, rfl⟩
abbrev main_call11_v10 : Ref sig .tc := ⟨.hbm, 256, rfl⟩
abbrev main_call11_v11 : Ref sig .tc := ⟨.hbm, 257, rfl⟩
abbrev main_call11_c_3 : Ref sig .tc := ⟨.hbm, 258, rfl⟩
abbrev main_call11_v12 : Ref sig .tc := ⟨.hbm, 259, rfl⟩
abbrev main_call11_v13 : Ref sig .tc := ⟨.hbm, 260, rfl⟩
abbrev main_call11_cst : Ref sig .tc := ⟨.hbm, 261, rfl⟩
abbrev main_call11_v14 : Ref sig .tc := ⟨.hbm, 262, rfl⟩
abbrev main_v149 : Ref sig .tc := ⟨.hbm, 263, rfl⟩
abbrev main_call12_c : Ref sig .tc := ⟨.hbm, 264, rfl⟩
abbrev main_call12_v0 : Ref sig .tc := ⟨.hbm, 265, rfl⟩
abbrev main_call12_v1 : Ref sig .tc := ⟨.hbm, 266, rfl⟩
abbrev main_call12_c_0 : Ref sig .tc := ⟨.hbm, 267, rfl⟩
abbrev main_call12_v2 : Ref sig .tc := ⟨.hbm, 268, rfl⟩
abbrev main_call12_v3 : Ref sig .tc := ⟨.hbm, 269, rfl⟩
abbrev main_call12_v4 : Ref sig .tc := ⟨.hbm, 270, rfl⟩
abbrev main_call12_v5 : Ref sig .tc := ⟨.hbm, 271, rfl⟩
abbrev main_call12_c_1 : Ref sig .tc := ⟨.hbm, 272, rfl⟩
abbrev main_call12_c_2 : Ref sig .tc := ⟨.hbm, 273, rfl⟩
abbrev main_call12_v6 : Ref sig .tc := ⟨.hbm, 274, rfl⟩
abbrev main_call12_v7 : Ref sig .tc := ⟨.hbm, 275, rfl⟩
abbrev main_call12_v8 : Ref sig .tc := ⟨.hbm, 276, rfl⟩
abbrev main_call12_v9 : Ref sig .tc := ⟨.hbm, 277, rfl⟩
abbrev main_call12_v10 : Ref sig .tc := ⟨.hbm, 278, rfl⟩
abbrev main_call12_v11 : Ref sig .tc := ⟨.hbm, 279, rfl⟩
abbrev main_call12_c_3 : Ref sig .tc := ⟨.hbm, 280, rfl⟩
abbrev main_call12_v12 : Ref sig .tc := ⟨.hbm, 281, rfl⟩
abbrev main_call12_v13 : Ref sig .tc := ⟨.hbm, 282, rfl⟩
abbrev main_call12_cst : Ref sig .tc := ⟨.hbm, 283, rfl⟩
abbrev main_call12_v14 : Ref sig .tc := ⟨.hbm, 284, rfl⟩
abbrev main_v150 : Ref sig .tc := ⟨.hbm, 285, rfl⟩
abbrev main_v151 : Ref sig .tc := ⟨.hbm, 286, rfl⟩
abbrev main_v152 : Ref sig .tc := ⟨.hbm, 287, rfl⟩
abbrev main_call13_v0 : Ref sig .tc := ⟨.hbm, 288, rfl⟩
abbrev main_v153 : Ref sig .tc := ⟨.hbm, 289, rfl⟩
abbrev main_v154 : Ref sig .tc := ⟨.hbm, 290, rfl⟩
abbrev main_v155 : Ref sig .tc := ⟨.hbm, 291, rfl⟩
abbrev main_call14_v0 : Ref sig .tc := ⟨.hbm, 292, rfl⟩
abbrev main_v156 : Ref sig .tc := ⟨.hbm, 293, rfl⟩
abbrev main_v157 : Ref sig .tc := ⟨.hbm, 294, rfl⟩
abbrev main_v158 : Ref sig .tc := ⟨.hbm, 295, rfl⟩
abbrev main_v159 : Ref sig .tc := ⟨.hbm, 296, rfl⟩
abbrev main_v160 : Ref sig .tc := ⟨.hbm, 297, rfl⟩
abbrev main_cst_30 : Ref sig .tc := ⟨.hbm, 298, rfl⟩
abbrev main_v161 : Ref sig .tc := ⟨.hbm, 299, rfl⟩
abbrev main_v162 : Ref sig .tc := ⟨.hbm, 300, rfl⟩
abbrev main_cst_31 : Ref sig .tc := ⟨.hbm, 301, rfl⟩
abbrev main_v163 : Ref sig .tc := ⟨.hbm, 302, rfl⟩
abbrev main_v164 : Ref sig .tc := ⟨.hbm, 303, rfl⟩
abbrev main_v165 : Ref sig .tc := ⟨.hbm, 304, rfl⟩
abbrev main_v166 : Ref sig .tc := ⟨.hbm, 305, rfl⟩
abbrev main_v167 : Ref sig .tc := ⟨.hbm, 306, rfl⟩
abbrev main_cst_32 : Ref sig .tc := ⟨.hbm, 307, rfl⟩
abbrev main_v168 : Ref sig .tc := ⟨.hbm, 308, rfl⟩
abbrev main_v169 : Ref sig .tc := ⟨.hbm, 309, rfl⟩
abbrev main_cst_33 : Ref sig .tc := ⟨.hbm, 310, rfl⟩
abbrev main_v170 : Ref sig .tc := ⟨.hbm, 311, rfl⟩
abbrev main_v171 : Ref sig .tc := ⟨.hbm, 312, rfl⟩
abbrev main_v172 : Ref sig .tc := ⟨.hbm, 313, rfl⟩
abbrev main_v173 : Ref sig .tc := ⟨.hbm, 314, rfl⟩
abbrev main_cst_34 : Ref sig .tc := ⟨.hbm, 315, rfl⟩
abbrev main_v174 : Ref sig .tc := ⟨.hbm, 316, rfl⟩
abbrev main_v175 : Ref sig .tc := ⟨.hbm, 317, rfl⟩
abbrev main_v176 : Ref sig .tc := ⟨.hbm, 318, rfl⟩
abbrev main_v177 : Ref sig .tc := ⟨.hbm, 319, rfl⟩
abbrev main_v178 : Ref sig .tc := ⟨.hbm, 320, rfl⟩
abbrev main_v179 : Ref sig .tc := ⟨.hbm, 321, rfl⟩
abbrev main_v180 : Ref sig .tc := ⟨.hbm, 322, rfl⟩
abbrev main_v181 : Ref sig .tc := ⟨.hbm, 323, rfl⟩
abbrev main_v182 : Ref sig .tc := ⟨.hbm, 324, rfl⟩
abbrev main_v183 : Ref sig .tc := ⟨.hbm, 325, rfl⟩
abbrev main_v184 : Ref sig .tc := ⟨.hbm, 326, rfl⟩
abbrev main_call15_cst : Ref sig .tc := ⟨.hbm, 327, rfl⟩
abbrev main_call15_v0 : Ref sig .tc := ⟨.hbm, 328, rfl⟩
abbrev main_v185 : Ref sig .tc := ⟨.hbm, 329, rfl⟩
abbrev main_v186 : Ref sig .tc := ⟨.hbm, 330, rfl⟩
abbrev main_v187 : Ref sig .tc := ⟨.hbm, 331, rfl⟩
abbrev main_v188 : Ref sig .tc := ⟨.hbm, 332, rfl⟩
abbrev main_v189 : Ref sig .tc := ⟨.hbm, 333, rfl⟩
abbrev main_v190 : Ref sig .tc := ⟨.hbm, 334, rfl⟩
abbrev main_cst_35 : Ref sig .tc := ⟨.hbm, 335, rfl⟩
abbrev main_v191 : Ref sig .tc := ⟨.hbm, 336, rfl⟩
abbrev main_v192 : Ref sig .tc := ⟨.hbm, 337, rfl⟩
abbrev main_cst_36 : Ref sig .tc := ⟨.hbm, 338, rfl⟩
abbrev main_v193 : Ref sig .tc := ⟨.hbm, 339, rfl⟩
abbrev main_v194 : Ref sig .tc := ⟨.hbm, 340, rfl⟩
abbrev main_v195 : Ref sig .tc := ⟨.hbm, 341, rfl⟩
abbrev main_v196 : Ref sig .tc := ⟨.hbm, 342, rfl⟩
abbrev main_v197 : Ref sig .tc := ⟨.hbm, 343, rfl⟩
abbrev main_cst_37 : Ref sig .tc := ⟨.hbm, 344, rfl⟩
abbrev main_v198 : Ref sig .tc := ⟨.hbm, 345, rfl⟩
abbrev main_v199 : Ref sig .tc := ⟨.hbm, 346, rfl⟩
abbrev main_cst_38 : Ref sig .tc := ⟨.hbm, 347, rfl⟩
abbrev main_v200 : Ref sig .tc := ⟨.hbm, 348, rfl⟩
abbrev main_v201 : Ref sig .tc := ⟨.hbm, 349, rfl⟩
abbrev main_v202 : Ref sig .tc := ⟨.hbm, 350, rfl⟩
abbrev main_v203 : Ref sig .tc := ⟨.hbm, 351, rfl⟩
abbrev main_cst_39 : Ref sig .tc := ⟨.hbm, 352, rfl⟩
abbrev main_v204 : Ref sig .tc := ⟨.hbm, 353, rfl⟩
abbrev main_v205 : Ref sig .tc := ⟨.hbm, 354, rfl⟩
abbrev main_v206 : Ref sig .tc := ⟨.hbm, 355, rfl⟩
abbrev main_v207 : Ref sig .tc := ⟨.hbm, 356, rfl⟩
abbrev main_v208 : Ref sig .tc := ⟨.hbm, 357, rfl⟩
abbrev main_v209 : Ref sig .tc := ⟨.hbm, 358, rfl⟩
abbrev main_v210 : Ref sig .tc := ⟨.hbm, 359, rfl⟩
abbrev main_v211 : Ref sig .tc := ⟨.hbm, 360, rfl⟩
abbrev main_v212 : Ref sig .tc := ⟨.hbm, 361, rfl⟩
abbrev main_v213 : Ref sig .tc := ⟨.hbm, 362, rfl⟩
abbrev main_v214 : Ref sig .tc := ⟨.hbm, 363, rfl⟩
abbrev main_call16_cst : Ref sig .tc := ⟨.hbm, 364, rfl⟩
abbrev main_call16_v0 : Ref sig .tc := ⟨.hbm, 365, rfl⟩
abbrev main_v215 : Ref sig .tc := ⟨.hbm, 366, rfl⟩
abbrev main_v216 : Ref sig .tc := ⟨.hbm, 367, rfl⟩
abbrev main_v217 : Ref sig .tc := ⟨.hbm, 368, rfl⟩
abbrev main_v218 : Ref sig .tc := ⟨.hbm, 369, rfl⟩
abbrev main_v219 : Ref sig .tc := ⟨.hbm, 370, rfl⟩
abbrev main_v220 : Ref sig .tc := ⟨.hbm, 371, rfl⟩
abbrev main_cst_40 : Ref sig .tc := ⟨.hbm, 372, rfl⟩
abbrev main_v221 : Ref sig .tc := ⟨.hbm, 373, rfl⟩

abbrev nD : Nat := 1
abbrev τ : Topo := Topo.v7x

variable {F : FTy → Type} [FloatOps F]
-- ==== Proof.Frames.lean ====
/- The three frames and the named constants. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Pre_finite_points

@[expose] public section

noncomputable section

open Idealize.ShloMosaic Idealize.ShloMosaic.TcCoe Idealize.SL.Sem

namespace Cert.Proof.Frames

/-- The kernel as floats run: it ends, nothing is faulted, the arguments are left alone and the counters are zero. -/
theorem frame_p : Cert.quiescent_Kernel := fun m ρ _ => Cert.Kernel.Gen.frame m ρ

/-- The same of the kernel over the reals. -/
theorem frame_pi : Cert.quiescent_KernelIdeal := fun m ρ _ => Cert.KernelIdeal.Gen.frame m ρ

/-- The same under the precondition (which the run does not need). -/
theorem frame_pi_pre : Cert.quiescent_KernelIdeal_pre_finite_points := fun m ρ _ => Cert.KernelIdeal.Gen.frame m ρ

/-- The reference over the reals; the program has no semaphore. -/
theorem frame_ri : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

theorem frame_ri_pre : Cert.quiescent_ReferenceIdeal_pre_finite_points := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The three named constants have the values the table gives them. -/
theorem preserves : Cert.preserves_Kernel_KernelIdeal :=
  ⟨IdealRules.named_const.statement Cert.KernelIdeal.κ "far" .f32 0x7F61B1E6#32 ⊤ rfl,
   IdealRules.named_const.statement Cert.KernelIdeal.κ "inv_pi" .f32 0x3EA2F983#32 ((Real.pi⁻¹ : ℝ) : EReal) rfl,
   IdealRules.named_const.statement Cert.KernelIdeal.κ "inv_two_pi" .f32 0x3E22F983#32 (((2 * Real.pi)⁻¹ : ℝ) : EReal) rfl⟩

end Cert.Proof.Frames

end

end
-- ==== Proof.KRun.lean ====
/- The kernel's run with its result: the launch over the generated segments, the result array read at the last boundary. -/
module

public import proofs.«01_k».proof.Proof.Gen.KernelIdeal.Frame

@[expose] public section

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
variable (m : (ℓ : Loc nD τ sig) → Buf (Elt F) ℓ) (ρ : Dev nD → PrngReg)
variable (V : (c : Dev nD) → (b : Ref sig .tc) → Buf (Elt F) ((c : Thread nD τ).loc b))
local notation "𝕄" => MT nD τ sig Unit (Elt F) ℕ (UR sig nD τ) ℕ

set_option backward.isDefEq.respectTransparency.types false in
/-- Every run of the kernel ends with the result array at the last boundary's contents and the arguments unchanged. -/
theorem run_main : θ_run defs (onTc (τ := τ) (main (F := F))) ⟨m, fun _ => 0, ρ⟩ (fun r => ∀ c : Dev nD,
      r.2.mem ((c.tc : Thread nD τ).loc main_v8) = W3 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c =>
      ⟨h c _ (mem_uc main_v8 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c),
       (h c _ (mem_uc main_arg9 (by decide))).trans (W3_main_arg9 m ρ c)⟩)

end Cert.KernelIdeal.Gen

end

end
-- ==== Proof.Order.lean ====
/- Selection and ranking by a key with ties broken by position, apart from any program. -/
module

public import Idealize.ShloMosaic.Lib.SortPrefix
public import Idealize.ShloMosaic.Lib.Pointwise

@[expose] public section

noncomputable section

open Idealize.ShloMosaic

namespace Cert.Proof.Order

/-! ## A stable sort by a key is the sort by the key and then the position -/

theorem insertBefore_congr {ι : Type} (B B' : ι → ι → Bool) (a : ι) (l : List ι) (h : ∀ b ∈ l, B b a = B' b a) :
    insertBefore B a l = insertBefore B' a l := by
  induction l with
  | nil => rfl
  | cons b l ih =>
    unfold insertBefore
    rw [h b (by simp), ih fun c hc => h c (by simp [hc])]

theorem stableSort_congr {ι : Type} (B B' : ι → ι → Bool) (l : List ι) (h : l.Pairwise fun a b => B b a = B' b a) :
    stableSort B l = stableSort B' l := by
  induction l with
  | nil => rfl
  | cons a l ih =>
    rw [List.pairwise_cons] at h
    unfold stableSort
    rw [ih h.2]
    exact insertBefore_congr B B' a _ fun b hb => h.1 b ((perm_stableSort B' l).mem_iff.mp hb)

/-- The sort only ever asks whether a later position goes before an earlier one. -/
theorem sortedFrom_congr_lt {n : Nat} (B B' : Fin n → Fin n → Bool) (h : ∀ a b, a < b → B b a = B' b a) :
    sortedFrom B = sortedFrom B' := by
  have e : sortPositions n B = sortPositions n B' :=
    stableSort_congr B B' _ ((List.pairwise_lt_finRange n).imp fun {a b} hab => h a b hab)
  funext k
  unfold sortedFrom
  exact List.get_of_eq e _

/-- `j` goes before `i`: a smaller key, or the same key and an earlier position. -/
def lexB {n : Nat} (key : Fin n → EReal) (k k' : Fin n) : Bool :=
  decide (key k < key k') || (decide (key k = key k') && decide (k < k'))

theorem lexB_total {n : Nat} (key : Fin n → EReal) : StrictTotalBefore (lexB key) :=
  StrictTotalBefore.of_key_then_position (fun a b => decide (a < b)) key (fun a => by simp)
    (fun a b c h h' => by simp only [decide_eq_true_eq] at *; exact lt_trans h h')
    (fun a b => by simp only [decide_eq_true_eq]; exact lt_trichotomy a b)

theorem lexB_false {n : Nat} (key : Fin n → EReal) (a b : Fin n) :
    lexB key a b = false ↔ key b ≤ key a ∧ (key a = key b → b ≤ a) := by
  unfold lexB
  rw [Bool.or_eq_false_iff]
  simp only [decide_eq_false_iff_not, not_lt, Bool.and_eq_false_iff]
  tauto

/-- A comparator that says which of two keys is smaller sorts by key and position. -/
theorem sortedFrom_eq_lexB {n : Nat} (key : Fin n → EReal) (B : Fin n → Fin n → Bool)
    (h : ∀ a b, B a b = decide (key a < key b)) : sortedFrom B = sortedFrom (lexB key) :=
  sortedFrom_congr_lt _ _ fun a b hab => by
    rw [h, lexB]
    have : ¬ b < a := not_lt.mpr hab.le
    simp [this]

/-- Keys in the same order give the same relation. -/
theorem lexB_congr {n : Nat} (key key' : Fin n → EReal) (h : ∀ a b, key a < key b ↔ key' a < key' b) :
    lexB key = lexB key' := by
  funext a b
  have e : key a = key b ↔ key' a = key' b := by
    constructor <;> intro e
    · exact le_antisymm (not_lt.mp fun hl => by have := (h b a).mpr hl; rw [e] at this; exact lt_irrefl _ this)
        (not_lt.mp fun hl => by have := (h a b).mpr hl; rw [e] at this; exact lt_irrefl _ this)
    · exact le_antisymm (not_lt.mp fun hl => by have := (h b a).mp hl; rw [e] at this; exact lt_irrefl _ this)
        (not_lt.mp fun hl => by have := (h a b).mp hl; rw [e] at this; exact lt_irrefl _ this)
  unfold lexB
  simp only [h a b, e]

/-! ## The rank counted pairwise -/

/-- How many positions go before `i`. -/
def rank {n : Nat} (key : Fin n → EReal) (i : Fin n) : ℕ := (Finset.univ.filter fun j => lexB key j i = true).card

theorem rank_sortedFrom {n : Nat} (key : Fin n → EReal) (r : Fin n) : rank key (sortedFrom (lexB key) r) = r := by
  have hB := lexB_total key
  have hord : ∀ i j : Fin n, i < j → lexB key (sortedFrom (lexB key) j) (sortedFrom (lexB key) i) = false :=
    fun i j h => sortedFrom_noInversion (lexB key) (lexB key) hB.asymm (fun _ _ h => h) hB.negTrans i j h
  have hinj := sortedFrom_injective (lexB key)
  have hiff : ∀ s, lexB key (sortedFrom (lexB key) s) (sortedFrom (lexB key) r) = true ↔ s < r := by
    intro s
    constructor
    · intro h
      rcases lt_trichotomy s r with hs | rfl | hs
      · exact hs
      · rw [hB.irrefl] at h; exact absurd h (by decide)
      · rw [hord _ _ hs] at h; exact absurd h (by decide)
    · intro h
      rcases hB.total (sortedFrom (lexB key) s) (sortedFrom (lexB key) r) (fun e => h.ne (hinj e)) with h' | h'
      · exact h'
      · rw [hord _ _ h] at h'; exact absurd h' (by decide)
  have : (Finset.univ.filter fun j => lexB key j (sortedFrom (lexB key) r) = true)
      = (Finset.univ.filter fun s : Fin n => s < r).image (sortedFrom (lexB key)) := by
    ext j
    obtain ⟨s, rfl⟩ := sortedFrom_surjective (lexB key) j
    simp only [Finset.mem_filter, Finset.mem_univ, true_and, hiff, Finset.mem_image]
    constructor
    · intro h; exact ⟨s, h, rfl⟩
    · rintro ⟨s', h, e⟩; rwa [← hinj e]
  rw [rank, this, Finset.card_image_of_injective _ hinj]
  have e : (Finset.univ.filter fun s : Fin n => s < r) = Finset.Iio r := by ext s; simp
  rw [e, Fin.card_Iio]

theorem rank_eq_iff {n : Nat} (key : Fin n → EReal) (i r : Fin n) :
    rank key i = r ↔ i = sortedFrom (lexB key) r := by
  constructor
  · intro h
    obtain ⟨s, rfl⟩ := sortedFrom_surjective (lexB key) i
    rw [rank_sortedFrom] at h
    rw [Fin.ext h]
  · rintro rfl; exact rank_sortedFrom key r

/-- The sum that keeps the one entry of rank `r`. -/
theorem sum_rank {n : Nat} (key : Fin n → EReal) (v : Fin n → EReal) (r : Fin n) :
    (∑ i, if rank key i = r then v i else 0) = v (sortedFrom (lexB key) r) := by
  simp only [rank_eq_iff]
  rw [Finset.sum_ite_eq' Finset.univ (sortedFrom (lexB key) r) v]
  simp

/-- The rank in two counts: the smaller keys, and the equal keys at earlier positions. -/
theorem rank_split {n : Nat} (key : Fin n → EReal) (i : Fin n) :
    rank key i = (Finset.univ.filter fun j => key j < key i).card
      + (Finset.univ.filter fun x : Fin i => key ⟨x, x.2.trans i.2⟩ = key i).card := by
  have hinj : Function.Injective fun x : Fin i => (⟨x, x.2.trans i.2⟩ : Fin n) :=
    fun a b e => Fin.ext (by simpa using e)
  rw [← Finset.card_image_of_injective (Finset.univ.filter fun x : Fin i => key ⟨x, x.2.trans i.2⟩ = key i) hinj,
    ← Finset.card_union_of_disjoint, rank]
  · congr 1
    ext j
    simp only [lexB, Finset.mem_filter, Finset.mem_univ, true_and, Finset.mem_union, Finset.mem_image,
      Bool.or_eq_true, Bool.and_eq_true, decide_eq_true_eq]
    refine or_congr Iff.rfl ⟨?_, ?_⟩
    · rintro ⟨h, h'⟩; exact ⟨⟨j, h'⟩, h, rfl⟩
    · rintro ⟨x, h, rfl⟩; exact ⟨h, x.2⟩
  · rw [Finset.disjoint_left]
    intro j hj hj'
    simp only [Finset.mem_filter, Finset.mem_univ, true_and, Finset.mem_image] at hj hj'
    obtain ⟨x, h, rfl⟩ := hj'
    exact absurd h hj.ne

theorem rank_lt {n : Nat} (key : Fin n → EReal) (i : Fin n) : rank key i < n := by
  obtain ⟨r, rfl⟩ := sortedFrom_surjective (lexB key) i
  rw [rank_sortedFrom]; exact r.2

/-- Adding up the words of a condition counts it. -/
theorem fold_bits {ι : Type} [DecidableEq ι] (s : Finset ι) (P : ι → Prop) [DecidablePred P] :
    s.fold IntOp.addi (0#32) (fun x => BitVec.setWidth 32 (BitVec.ofBool (decide (P x)))) = BitVec.ofNat 32 (s.filter P).card := by
  induction s using Finset.induction_on with
  | empty => rfl
  | insert a s ha ih =>
    rw [Finset.fold_insert ha, ih, Finset.filter_insert]
    by_cases h : P a
    · rw [if_pos h, Finset.card_insert_of_notMem (by simp [ha])]
      simp [IntOp.addi, h, BitVec.ofNat_add, add_comm]
      exact BitVec.add_comm _ _
    · rw [if_neg h]
      simp [IntOp.addi, h]

/-- The same sum with the rank as a word. -/
theorem sum_rank_word (key : Fin 8 → EReal) (v : Fin 8 → EReal) (r : Fin 8) :
    (∑ i, if BitVec.ofNat 32 (rank key i) = BitVec.ofNat 32 r then v i else 0) = v (sortedFrom (lexB key) r) := by
  rw [← sum_rank key v r]
  refine Finset.sum_congr rfl fun i _ => if_congr ?_ rfl rfl
  have h1 := rank_lt key i
  have h2 := r.2
  rw [← BitVec.toNat_inj, BitVec.toNat_ofNat, BitVec.toNat_ofNat]
  omega

/-! ## Repeated removal of the least entry -/

variable {n : Nat}

/-- The position a one-hot round finds: least value, and among those the least position. -/
def IsPick (d : Fin n → EReal) (p : Fin n) : Prop := ∀ j, d p ≤ d j ∧ (d j = d p → p ≤ j)

theorem exists_pick [NeZero n] (d : Fin n → EReal) : ∃ p, IsPick d p := by
  obtain ⟨p, -, hp⟩ := Finset.exists_min_image Finset.univ (fun j => toLex (d j, j)) ⟨0, Finset.mem_univ _⟩
  refine ⟨p, fun j => ?_⟩
  have h := hp j (Finset.mem_univ _)
  rw [Prod.Lex.toLex_le_toLex] at h
  rcases h with h | ⟨h, h'⟩
  · exact ⟨h.le, fun e => absurd e h.ne'⟩
  · exact ⟨h.le, fun _ => h'⟩

/-- The picked position of `d`. -/
def pick [NeZero n] (d : Fin n → EReal) : Fin n := (exists_pick d).choose

theorem pick_spec [NeZero n] (d : Fin n → EReal) : IsPick d (pick d) := (exists_pick d).choose_spec

/-- One round: the picked entry is moved to the top. -/
def next [NeZero n] (d : Fin n → EReal) : Fin n → EReal := fun j => if j = pick d then ⊤ else d j

/-- `t` rounds. -/
def rounds [NeZero n] (d : Fin n → EReal) : ℕ → Fin n → EReal
  | 0 => d
  | t + 1 => next (rounds d t)

/-- What the `t`-th round picks. -/
def sel [NeZero n] (d : Fin n → EReal) (t : ℕ) : Fin n := pick (rounds d t)

theorem rounds_eq [NeZero n] (d : Fin n → EReal) (t : ℕ) (j : Fin n) :
    rounds d t j = if ∃ s < t, sel d s = j then ⊤ else d j := by
  induction t with
  | zero => simp [rounds]
  | succ t ih =>
    show next (rounds d t) j = _
    unfold next
    rw [ih]
    by_cases h : j = pick (rounds d t)
    · rw [if_pos h, if_pos ⟨t, Nat.lt_succ_self t, h.symm⟩]
    · rw [if_neg h]
      refine if_congr ?_ rfl rfl
      constructor
      · rintro ⟨s, hs, e⟩; exact ⟨s, hs.trans (Nat.lt_succ_self t), e⟩
      · rintro ⟨s, hs, e⟩
        rcases Nat.lt_succ_iff_lt_or_eq.mp hs with hs | rfl
        · exact ⟨s, hs, e⟩
        · exact absurd e.symm h

theorem sel_fresh [NeZero n] (d : Fin n → EReal) (hd : ∀ j, d j < ⊤) (t : ℕ) (ht : t < n) (s : ℕ) (hs : s < t) :
    sel d s ≠ sel d t := by
  intro e
  have hcard : ((Finset.range t).image (sel d)).card < (Finset.univ : Finset (Fin n)).card := by
    refine lt_of_le_of_lt Finset.card_image_le ?_
    simpa using ht
  obtain ⟨j, -, hj⟩ := Finset.exists_mem_notMem_of_card_lt_card hcard
  have hj' : ¬ ∃ s < t, sel d s = j := fun ⟨s, hs, e⟩ => hj (Finset.mem_image.mpr ⟨s, Finset.mem_range.mpr hs, e⟩)
  have h1 := (pick_spec (rounds d t) j).1
  rw [rounds_eq, rounds_eq d t j, if_neg hj', if_pos ⟨s, hs, e⟩] at h1
  exact absurd (hd j) (not_lt.mpr h1)

theorem sel_notBefore [NeZero n] (d : Fin n → EReal) (hd : ∀ j, d j < ⊤) (t : ℕ) (ht : t < n) (p : Fin n)
    (hp : ∀ s < t, sel d s ≠ p) : lexB d p (sel d t) = false := by
  have h := pick_spec (rounds d t) p
  have hf : ¬ ∃ s < t, sel d s = sel d t := fun ⟨s, hs, e⟩ => sel_fresh d hd t ht s hs e
  have hp' : ¬ ∃ s < t, sel d s = p := fun ⟨s, hs, e⟩ => hp s hs e
  rw [rounds_eq, rounds_eq d t p, if_neg hp', if_neg (show ¬ ∃ s < t, sel d s = pick (rounds d t) from hf)] at h
  rw [lexB_false]
  exact h

/-- The rounds list the positions in the order of the sort. -/
theorem sortedFrom_eq_sel [NeZero n] (d : Fin n → EReal) (hd : ∀ j, d j < ⊤) (k : ℕ) (hk : k ≤ n) (i : Fin k) :
    sortedFrom (lexB d) (i.castLE hk) = sel d i := by
  refine (lexB_total d).sortedFrom_eq_of_prefix hk (fun i : Fin k => sel d i) ?_ ?_ ?_ i
  · intro a b e
    rcases lt_trichotomy a b with h | h | h
    · exact absurd e (sel_fresh d hd b (lt_of_lt_of_le b.2 hk) a h)
    · exact h
    · exact absurd e.symm (sel_fresh d hd a (lt_of_lt_of_le a.2 hk) b h)
  · intro a b h
    exact sel_notBefore d hd a (lt_of_lt_of_le a.2 hk) _ fun s hs =>
      sel_fresh d hd b (lt_of_lt_of_le b.2 hk) s (hs.trans h)
  · intro a p hp
    exact sel_notBefore d hd a (lt_of_lt_of_le a.2 hk) p fun s hs => hp ⟨s, hs.trans a.2⟩

/-! ## A round, as the kernel computes it -/

theorem fold_min_eq {n : Nat} [NeZero n] (f : Fin n → EReal) (p : Fin n) (hp : ∀ j, f p ≤ f j) :
    Finset.univ.fold min ⊤ f = f p := by
  refine le_antisymm ?_ ?_
  · rw [Finset.fold_min_le]; exact Or.inr ⟨p, Finset.mem_univ _, le_rfl⟩
  · rw [Finset.le_fold_min]; exact ⟨le_top, fun j _ => hp j⟩

/-- The candidates' positions, `n` where the entry is not least. -/
def cand (d : Fin n → EReal) (j : Fin n) : EReal :=
  if d j = Finset.univ.fold min ⊤ d then ((j : ℕ) : EReal) else ((n : ℕ) : EReal)

theorem cand_min [NeZero n] (d : Fin n → EReal) : Finset.univ.fold min ⊤ (cand d) = ((pick d : ℕ) : EReal) := by
  have hm : Finset.univ.fold min ⊤ d = d (pick d) := fold_min_eq d _ fun j => (pick_spec d j).1
  have hp : cand d (pick d) = ((pick d : ℕ) : EReal) := by rw [cand, if_pos hm.symm]
  rw [← hp]
  refine fold_min_eq (cand d) _ fun j => ?_
  rw [hp, cand, hm]
  split
  · rename_i h; exact_mod_cast (pick_spec d j).2 h
  · exact_mod_cast (pick d).2.le

theorem cand_eq_min_iff [NeZero n] (d : Fin n → EReal) (j : Fin n) :
    cand d j = Finset.univ.fold min ⊤ (cand d) ↔ j = pick d := by
  have hm : Finset.univ.fold min ⊤ d = d (pick d) := fold_min_eq d _ fun j => (pick_spec d j).1
  rw [cand_min, cand, hm]
  constructor
  · intro h
    split at h
    · exact Fin.ext (by exact_mod_cast h)
    · have : n = (pick d : ℕ) := by exact_mod_cast h
      have := (pick d).2
      omega
  · rintro rfl; rw [if_pos rfl]

/-- One where the round's pick is. -/
def oneHot [NeZero n] (d : Fin n → EReal) (j : Fin n) : EReal :=
  if cand d j = Finset.univ.fold min ⊤ (cand d) then 1 else 0

theorem oneHot_eq [NeZero n] (d : Fin n → EReal) (j : Fin n) : oneHot d j = if j = pick d then 1 else 0 := by
  unfold oneHot
  simp only [cand_eq_min_iff]

/-- Adding the one-hot times infinity moves the picked entry to the top. -/
theorem next_eq [NeZero n] (d : Fin n → EReal) (hd : ∀ j, d j ≠ ⊥) (j : Fin n) : d j + oneHot d j * ⊤ = next d j := by
  rw [oneHot_eq, next]
  split
  · rw [one_mul]; exact EReal.add_top_of_ne_bot (hd j)
  · rw [zero_mul, add_zero]

theorem rounds_ne_bot [NeZero n] (d : Fin n → EReal) (hd : ∀ j, d j ≠ ⊥) (t : ℕ) (j : Fin n) : rounds d t j ≠ ⊥ := by
  rw [rounds_eq]; split
  · exact (by decide)
  · exact hd j

/-- The product of a one-hot row with a column keeps the picked entry. -/
theorem oneHot_sum [NeZero n] (d v : Fin n → EReal) : (∑ j, oneHot d j * v j) = v (pick d) := by
  simp only [oneHot_eq, ite_mul, one_mul, zero_mul]
  rw [Finset.sum_ite_eq' Finset.univ (pick d) v]
  simp

end Cert.Proof.Order

end

end
-- ==== Proof.Angle.lean ====
/- The two angle identities the kernel relies on: a rational key that orders points as their angle does, and the
   arc cosine as an angle. -/
module

public import Idealize.ShloMosaic.PureOps.Ideal
public import Mathlib.Analysis.SpecialFunctions.Trigonometric.Arctan

@[expose] public section

noncomputable section

open Idealize.ShloMosaic

namespace Cert.Proof.Angle

/-- The angle, in (-π, π], of a point of the plane. -/
def ang (y x : ℝ) : ℝ :=
  if 0 < x then Real.arctan (y / x)
  else if x < 0 then (if 0 ≤ y then Real.arctan (y / x) + Real.pi else Real.arctan (y / x) - Real.pi)
  else if 0 < y then Real.pi / 2 else if y < 0 then -(Real.pi / 2) else 0

theorem atan2_coe (y x : ℝ) : Ideal.atan2 (y : EReal) (x : EReal) = ((ang y x : ℝ) : EReal) := rfl

/-- The rational key. -/
def keyR (x y : ℝ) : ℝ :=
  if |x| + |y| = 0 then 0 else if 0 ≤ y then 1 - x / (|x| + |y|) else x / (|x| + |y|) - 1

/-- The angle of the upper half plane as a function of the key. -/
def up (q : ℝ) : ℝ :=
  if q < 1 then Real.arctan (q / (1 - q)) else if q = 1 then Real.pi / 2 else Real.arctan ((2 - q) / (1 - q)) + Real.pi

theorem two_sub_div (t : ℝ) (h : t ≠ 1) : (2 - t) / (1 - t) = 1 + (1 - t)⁻¹ := by
  have : 1 - t ≠ 0 := fun e => h (by linarith)
  field_simp
  ring

theorem up_strictMono : StrictMono up := by
  intro a b hab
  have h1 : ∀ t, Real.arctan t < Real.pi / 2 := Real.arctan_lt_pi_div_two
  have h2 : ∀ t, -(Real.pi / 2) < Real.arctan t := Real.neg_pi_div_two_lt_arctan
  unfold up
  by_cases ha : a < 1
  · rw [if_pos ha]
    by_cases hb : b < 1
    · rw [if_pos hb]
      apply Real.arctan_strictMono
      rw [div_lt_div_iff₀ (by linarith) (by linarith)]
      nlinarith
    · rw [if_neg hb]
      by_cases hb' : b = 1
      · rw [if_pos hb']; exact h1 _
      · rw [if_neg hb']
        have := h1 (a / (1 - a)); have := h2 ((2 - b) / (1 - b)); linarith
  · have hb : ¬ b < 1 := by linarith
    rw [if_neg ha, if_neg hb, if_neg (show ¬ b = 1 by intro h; subst h; exact ha hab)]
    by_cases ha' : a = 1
    · rw [if_pos ha']; have := h2 ((2 - b) / (1 - b)); linarith
    · rw [if_neg ha']
      have ha1 : 1 < a := lt_of_le_of_ne (not_lt.mp ha) (Ne.symm ha')
      have : (2 - a) / (1 - a) < (2 - b) / (1 - b) := by
        rw [two_sub_div a ha', two_sub_div b (by intro h; linarith)]
        have := (inv_lt_inv_of_neg (show 1 - a < 0 by linarith) (show 1 - b < 0 by linarith)).mpr (by linarith)
        linarith
      have := Real.arctan_strictMono this
      linarith

theorem up_zero : up 0 = 0 := by simp [up]

/-- … and of the whole plane. -/
def whole (p : ℝ) : ℝ := if 0 ≤ p then up p else -up (-p)

theorem whole_strictMono : StrictMono whole := by
  intro a b hab
  unfold whole
  by_cases ha : 0 ≤ a
  · rw [if_pos ha, if_pos (ha.trans hab.le)]; exact up_strictMono hab
  · rw [if_neg ha]
    have ha' : 0 < up (-a) := by rw [← up_zero]; exact up_strictMono (by linarith)
    by_cases hb : 0 ≤ b
    · rw [if_pos hb]
      have : 0 ≤ up b := by rw [← up_zero]; exact up_strictMono.monotone hb
      linarith
    · rw [if_neg hb]
      have := up_strictMono (show -b < -a by linarith)
      linarith

theorem ang_eq (x y : ℝ) : ang y x = whole (keyR x y) := by
  by_cases hd : |x| + |y| = 0
  · have hx : x = 0 := by have := abs_nonneg x; have := abs_nonneg y; exact abs_eq_zero.mp (by linarith)
    have hy : y = 0 := by have := abs_nonneg x; have := abs_nonneg y; exact abs_eq_zero.mp (by linarith)
    subst hx hy
    simp [ang, keyR, whole, up_zero]
  · have hd0 : 0 < |x| + |y| := lt_of_le_of_ne (by positivity) (Ne.symm hd)
    have hle : x ≤ |x| + |y| := by have := le_abs_self x; have := abs_nonneg y; linarith
    unfold keyR
    rw [if_neg hd]
    set d := |x| + |y| with hdd
    by_cases hy : 0 ≤ y
    · rw [if_pos hy]
      have h0 : 0 ≤ 1 - x / d := by
        have : x / d ≤ 1 := (div_le_one hd0).mpr hle
        linarith
      rw [whole, if_pos h0, up, ang]
      rcases lt_trichotomy x 0 with hx | hx | hx
      · have e : x / d < 0 := div_neg_of_neg_of_pos hx hd0
        rw [if_neg (by linarith), if_pos hx, if_pos hy, if_neg (by linarith), if_neg (by linarith)]
        have : d = -x + y := by rw [hdd, abs_of_neg hx, abs_of_nonneg hy]
        congr 2
        have hx' : x ≠ 0 := hx.ne
        rw [show 1 - (1 - x / d) = x / d by ring, show 2 - (1 - x / d) = y / d by rw [eq_div_iff hd]; field_simp; linarith]
        field_simp
      · subst hx
        have hyp : 0 < y := by
          rcases hy.lt_or_eq with h | h
          · exact h
          · exfalso; apply hd; rw [hdd, ← h]; simp
        simp [hyp]
      · have e : 0 < x / d := div_pos hx hd0
        rw [if_pos hx, if_pos (by linarith)]
        have : d = x + y := by rw [hdd, abs_of_pos hx, abs_of_nonneg hy]
        congr 1
        have hx' : x ≠ 0 := hx.ne'
        rw [show 1 - (1 - x / d) = x / d by ring, show 1 - x / d = y / d by rw [eq_div_iff hd]; field_simp; linarith]
        field_simp
    · rw [if_neg hy]
      have hy' : y < 0 := not_le.mp hy
      have hlt : x < d := by have := le_abs_self x; have := abs_pos.mpr hy'.ne; linarith
      have h0 : ¬ 0 ≤ x / d - 1 := by
        have : x / d < 1 := (div_lt_one hd0).mpr hlt
        linarith
      rw [whole, if_neg h0, up, ang]
      rcases lt_trichotomy x 0 with hx | hx | hx
      · have e : x / d < 0 := div_neg_of_neg_of_pos hx hd0
        rw [if_neg (by linarith), if_pos hx, if_neg hy, if_neg (by linarith), if_neg (by linarith)]
        have : d = -x + -y := by rw [hdd, abs_of_neg hx, abs_of_neg hy']
        have hx' : x ≠ 0 := hx.ne
        have e2 : (2 - -(x / d - 1)) / (1 - -(x / d - 1)) = -(y / x) := by
          rw [show 1 - -(x / d - 1) = x / d by ring,
            show 2 - -(x / d - 1) = -y / d by rw [eq_div_iff hd]; field_simp; linarith]
          field_simp
        rw [e2, Real.arctan_neg]; ring
      · subst hx
        simp [hy', not_lt.mpr hy'.le]
      · have e : 0 < x / d := div_pos hx hd0
        rw [if_pos hx, if_pos (by linarith)]
        have : d = x + -y := by rw [hdd, abs_of_pos hx, abs_of_neg hy']
        have hx' : x ≠ 0 := hx.ne'
        have e2 : -(x / d - 1) / (1 - -(x / d - 1)) = -(y / x) := by
          rw [show 1 - -(x / d - 1) = x / d by ring,
            show -(x / d - 1) = -y / d by rw [eq_div_iff hd]; field_simp; linarith]
          field_simp
        rw [e2, Real.arctan_neg]; ring

/-- The key orders points as the angle does. -/
theorem ang_lt_iff (x y x' y' : ℝ) : ang y x < ang y' x' ↔ keyR x y < keyR x' y' := by
  rw [ang_eq, ang_eq]; exact whole_strictMono.lt_iff_lt

/-- The arc cosine is the angle of the point on the upper unit half circle. -/
theorem arccos_eq_ang (r : ℝ) (h : -1 ≤ r) (h' : r ≤ 1) :
    Real.arccos r = ang (Real.sqrt (max ((1 - r) * (1 + r)) 0)) r := by
  have hn : 0 ≤ (1 - r) * (1 + r) := mul_nonneg (by linarith) (by linarith)
  rw [max_eq_left hn, show (1 - r) * (1 + r) = 1 - r ^ 2 by ring, ang]
  rcases lt_trichotomy r 0 with hr | hr | hr
  · rw [if_neg (by linarith), if_pos hr, if_pos (Real.sqrt_nonneg _)]
    have := Real.arccos_eq_arctan (show 0 < -r by linarith)
    rw [Real.arccos_neg, neg_sq, div_neg, Real.arctan_neg] at this
    linarith
  · subst hr; simp
  · rw [if_pos hr]; exact Real.arccos_eq_arctan hr

/-! ## The same on the extended reals, in the shape the programs have -/

/-- The key as the kernel computes it. -/
def pkey (x y : EReal) : EReal :=
  if max x (-x) + max y (-y) = 0 then 0
  else if 0 ≤ y then 1 - Ideal.div x (if max x (-x) + max y (-y) = 0 then 1 else max x (-x) + max y (-y))
  else Ideal.div x (if max x (-x) + max y (-y) = 0 then 1 else max x (-x) + max y (-y)) - 1

theorem coe_max (x y : ℝ) : ((max x y : ℝ) : EReal) = max (x : EReal) (y : EReal) := EReal.coe_strictMono.monotone.map_max

theorem abs_coe (x : ℝ) : max (x : EReal) (-(x : EReal)) = ((|x| : ℝ) : EReal) := by
  rw [← EReal.coe_neg, ← coe_max]; rfl

theorem div_coe_coe (x y : ℝ) (h : y ≠ 0) : Ideal.div (x : EReal) (y : EReal) = ((x / y : ℝ) : EReal) := by
  rw [Ideal.div_coe h, ← EReal.coe_mul, mul_one_div]

theorem pkey_coe (x y : ℝ) : pkey (x : EReal) (y : EReal) = ((keyR x y : ℝ) : EReal) := by
  unfold pkey keyR
  rw [abs_coe, abs_coe, ← EReal.coe_add]
  by_cases h : |x| + |y| = 0
  · rw [if_pos (by exact_mod_cast h), if_pos h]; rfl
  · have h' : ¬ ((|x| + |y| : ℝ) : EReal) = 0 := by exact_mod_cast h
    simp only [if_neg h', if_neg h]
    rw [div_coe_coe _ _ h]
    by_cases hy : 0 ≤ y
    · rw [if_pos (by exact_mod_cast hy), if_pos hy]; exact_mod_cast rfl
    · rw [if_neg (by exact_mod_cast hy), if_neg hy]; exact_mod_cast rfl

/-- The reference's sort key. -/
def phi (x y : EReal) : EReal :=
  Ideal.div (Ideal.atan2 y x) ((2 * Real.pi : ℝ) : EReal) + ((1 / 2 : ℝ) : EReal)

theorem phi_lt_iff (x y x' y' : ℝ) :
    phi (x : EReal) (y : EReal) < phi (x' : EReal) (y' : EReal) ↔ pkey (x : EReal) (y : EReal) < pkey (x' : EReal) (y' : EReal) := by
  have hp : (2 * Real.pi : ℝ) ≠ 0 := by positivity
  unfold phi
  rw [atan2_coe, atan2_coe, div_coe_coe _ _ hp, div_coe_coe _ _ hp, ← EReal.coe_add, ← EReal.coe_add,
    pkey_coe, pkey_coe, EReal.coe_lt_coe_iff, EReal.coe_lt_coe_iff, ← ang_lt_iff]
  rw [add_lt_add_iff_right, div_lt_div_iff_of_pos_right (by positivity)]

theorem acos_eq (r : EReal) (h : -1 ≤ r) (h' : r ≤ 1) :
    Ideal.acos r = Ideal.atan2 (Ideal.sqrt (max ((1 - r) * (1 + r)) 0)) r := by
  induction r using EReal.rec with
  | bot => exact absurd h (by decide)
  | top => exact absurd h' (by decide)
  | coe r =>
    have h1 : -1 ≤ r := by rw [← EReal.coe_le_coe_iff]; exact h
    have h2 : r ≤ 1 := by exact_mod_cast h'
    have e : max ((1 - (r : EReal)) * (1 + (r : EReal))) 0 = ((max ((1 - r) * (1 + r)) 0 : ℝ) : EReal) := by
      rw [coe_max, EReal.coe_mul]; rfl
    rw [e, Ideal.acos_coe, if_pos ⟨h1, h2⟩, arccos_eq_ang r h1 h2, ← atan2_coe]
    congr 1
    show _ = if _ then _ else _
    rw [if_neg (not_lt.mpr (le_max_right _ _))]

end Cert.Proof.Angle

end

end
-- ==== Proof.Spec.lean ====
/- What the feature stage computes for one query point: the channels of its eight neighbour triangles, over the extended
   reals. Both programs are read down to these definitions. -/
module

public import proofs.«01_k».proof.Proof.Order
public import proofs.«01_k».proof.Proof.Angle

@[expose] public section

noncomputable section

open Idealize.ShloMosaic
open Cert.Proof.Order Cert.Proof.Angle

namespace Cert.Proof.Spec

/-- The squared distance by the expansion `|q|² + |x|² − 2 q·x`. -/
def dist (q : Fin 3 → EReal) (X : Fin 3 → Fin 4096 → EReal) (j : Fin 4096) : EReal :=
  ((∑ c, q c * q c) + ∑ c, X c j * X c j) - 2 * ∑ c, q c * X c j

/-- The `i`-th neighbour after the nearest point, relative to the query. -/
def rel (q : Fin 3 → EReal) (X : Fin 3 → Fin 4096 → EReal) (c : Fin 3) (i : Fin 8) : EReal :=
  X c (sel (dist q X) (i + 1)) - q c

/-! The rest is a function of the eight relative positions `v c i`. -/

variable (v : Fin 3 → Fin 8 → EReal)

/-- The sort key of a neighbour: its direction in the plane. -/
def key (i : Fin 8) : EReal := pkey (v 0 i) (v 1 i)

/-- The neighbours in the order of their direction. -/
def srt (c : Fin 3) (g : Fin 8) : EReal := v c (sortedFrom (lexB (key v)) g)

variable (s : Fin 3 → Fin 8 → EReal)

/-- The next one, around. -/
def rot (c : Fin 3) (g : Fin 8) : EReal := s c (g + 1)

/-- The cross product of a neighbour with the next. -/
def cross (c : Fin 3) (g : Fin 8) : EReal :=
  match c with
  | 0 => s 1 g * rot s 2 g - s 2 g * rot s 1 g
  | 1 => s 2 g * rot s 0 g - s 0 g * rot s 2 g
  | 2 => s 0 g * rot s 1 g - s 1 g * rot s 0 g

def len (x y z : EReal) : EReal := Ideal.sqrt (x * x + y * y + z * z)

def unit (c : Fin 3) (g : Fin 8) : EReal := Ideal.div (cross s c g) (len (cross s 0 g) (cross s 1 g) (cross s 2 g))

/-- The normal, turned so that the first triangle's points to the positive side. -/
def normal (c : Fin 3) (g : Fin 8) : EReal := unit s c g * (if 0 < unit s 0 0 then 1 else -1)

/-- The triangle's centre. -/
def ctr (c : Fin 3) (g : Fin 8) : EReal := Ideal.div (s c g + rot s c g) ((3 : ℝ) : EReal)

def rho (g : Fin 8) : EReal := len (ctr s 0 g) (ctr s 1 g) (ctr s 2 g)

def ratio (g : Fin 8) : EReal := min 1 (max (-1) (Ideal.div (ctr s 2 g) (if rho s g = 0 then 1 else rho s g)))

def theta (g : Fin 8) : EReal :=
  (if rho s g = 0 then 0 else Ideal.atan2 (Ideal.sqrt (max ((1 - ratio s g) * (1 + ratio s g)) 0)) (ratio s g))
    * ((Real.pi⁻¹ : ℝ) : EReal)

def phi (g : Fin 8) : EReal := Ideal.atan2 (ctr s 1 g) (ctr s 0 g) * (((2 * Real.pi)⁻¹ : ℝ) : EReal) + ((1 / 2 : ℝ) : EReal)

/-- The nine channels of a triangle. -/
def chan (k : Fin 9) (g : Fin 8) : EReal :=
  match k with
  | 0 => ctr s 0 g
  | 1 => ctr s 1 g
  | 2 => ctr s 2 g
  | 3 => rho s g
  | 4 => theta s g
  | 5 => phi s g
  | 6 => normal s 0 g
  | 7 => normal s 1 g
  | 8 => normal s 2 g

/-- The features of the query `q` among the points `X`. -/
def feat (q : Fin 3 → EReal) (X : Fin 3 → Fin 4096 → EReal) (k : Fin 9) (g : Fin 8) : EReal :=
  chan (srt (rel q X)) k g

/-! ## On finite points every distance is finite -/

theorem coe_of_finite (x : EReal) (h : max x (-x) < ⊤) : ∃ r : ℝ, x = (r : EReal) := by
  induction x using EReal.rec with
  | bot => simp at h
  | top => simp at h
  | coe r => exact ⟨r, rfl⟩

theorem coe_fun {ι : Type} (f : ι → EReal) (h : ∀ i, ∃ r : ℝ, f i = (r : EReal)) : ∃ g : ι → ℝ, ∀ i, f i = (g i : EReal) :=
  ⟨fun i => (h i).choose, fun i => (h i).choose_spec⟩

theorem dist_coe (q : Fin 3 → ℝ) (X : Fin 3 → Fin 4096 → ℝ) (j : Fin 4096) :
    dist (fun c => (q c : EReal)) (fun c j => (X c j : EReal)) j
      = ((((∑ c, q c * q c) + ∑ c, X c j * X c j) - 2 * ∑ c, q c * X c j : ℝ) : EReal) := by
  unfold dist
  simp only [Fin.sum_univ_three]
  norm_cast

theorem dist_finite (q : Fin 3 → EReal) (X : Fin 3 → Fin 4096 → EReal) (hq : ∀ c, ∃ r : ℝ, q c = r)
    (hX : ∀ c j, ∃ r : ℝ, X c j = r) (j : Fin 4096) : ∃ r : ℝ, dist q X j = r := by
  choose q' hq' using hq
  choose X' hX' using hX
  obtain rfl : q = fun c => (q' c : EReal) := funext hq'
  obtain rfl : X = fun c j => (X' c j : EReal) := by funext c j; exact hX' c j
  exact ⟨_, dist_coe q' X' j⟩

theorem rel_finite (q : Fin 3 → EReal) (X : Fin 3 → Fin 4096 → EReal) (hq : ∀ c, ∃ r : ℝ, q c = r)
    (hX : ∀ c j, ∃ r : ℝ, X c j = r) (c : Fin 3) (i : Fin 8) : ∃ r : ℝ, rel q X c i = r := by
  obtain ⟨a, ha⟩ := hX c (sel (dist q X) (i + 1))
  obtain ⟨b, hb⟩ := hq c
  exact ⟨a - b, by rw [rel, ha, hb]; norm_cast⟩

theorem sub_self_finite (x : EReal) (h : ∃ r : ℝ, x = r) : x - x = 0 := by
  obtain ⟨r, rfl⟩ := h; rw [← EReal.coe_sub, sub_self]; rfl

end Cert.Proof.Spec

end

end
-- ==== Proof.KRounds.lean ====
/- The nine selection rounds of the kernel, read entry by entry. -/
module

public import proofs.«01_k».proof.Proof.Spec
public import proofs.«01_k».proof.Proof.Gen.KernelIdeal.Frame
public import Idealize.ShloMosaic.Lib.Pointwise

@[expose] public section

noncomputable section

open Idealize.ShloMosaic Idealize.ShloMosaic.TcCoe
open Cert.KernelIdeal Cert.KernelIdeal.Gen
open Cert.Proof.Order

namespace Cert.Proof.KRounds

theorem ofBits_top : Ideal.ofBits .f32 0x7F800000#32 = ⊤ := by simp [Ideal.ofBits, Ideal.ieee]

theorem ofBits_one : Ideal.ofBits .f32 0x3F800000#32 = 1 := by
  simp [Ideal.ofBits, Ideal.ieee, -EReal.coe_mul]; norm_num

theorem ofBits_count : Ideal.ofBits .f32 0x45800000#32 = ((4096 : ℕ) : EReal) := by
  simp [Ideal.ofBits, Ideal.ieee, -EReal.coe_mul]; norm_num; rfl

theorem far_eq : (Named.named κ "far" 0x7F61B1E6#32 : Ideal .f32) = ⊤ :=
  IdealRules.named_const.ideal_named_scalar _ _ _ _ rfl

/-- The one-hot of a round, as the kernel writes it. -/
def ohV (d fi : FVec Ideal S256x4096 .f32) : FVec Ideal S256x4096 .f32 :=
  let v70 : FVec Ideal S256 .f32 := multiReduction .minimumf [1] S256 d 0x7F800000#32 reduces_S256x4096_S256 (.inl rfl) rfl
  let v71 : FVec Ideal S256x1 .f32 := shapeCast S256x1 v70 shapeCasts_S256_S256x1
  let v72 : FVec Ideal S256x4096 .f32 := broadcastTo S256x4096 v71 broadcasts_S256x1_S256x4096
  let v73 : IVec S256x4096 1 := cmpf .oeq d v72
  let v74 : FVec Ideal S256x4096 .f32 := broadcast S256x4096 (Scalar.ofBits .f32 0x45800000#32)
  let v75 : FVec Ideal S256x4096 .f32 := select v73 fi v74
  let v76 : FVec Ideal S256 .f32 := multiReduction .minimumf [1] S256 v75 0x7F800000#32 reduces_S256x4096_S256 (.inl rfl) rfl
  let v77 : FVec Ideal S256x1 .f32 := shapeCast S256x1 v76 shapeCasts_S256_S256x1
  let v78 : FVec Ideal S256x4096 .f32 := broadcastTo S256x4096 v77 broadcasts_S256x1_S256x4096
  let v79 : IVec S256x4096 1 := cmpf .oeq v75 v78
  select v79 (broadcast S256x4096 (Scalar.ofBits .f32 0x3F800000#32)) (broadcast S256x4096 (Scalar.ofBits .f32 0x00000000#32))

/-- The distances after a round. -/
def nextV (d o : FVec Ideal S256x4096 .f32) : FVec Ideal S256x4096 .f32 :=
  addf d (mulf o (broadcast S256x4096 (Named.named κ "far" 0x7F61B1E6#32)))

/-- The coordinates a one-hot picks out. -/
def extV (o : FVec Ideal S256x4096 .f32) (kt : FVec Ideal S4096x9 .bf16) : FVec Ideal S256x3 .f32 :=
  let c : FVec Ideal S256x9 .f32 := matmul dot_S256x4096_S4096x9_S256x9_1_0_0_1_n_n none (truncf .bf16 o bitsLt_bf16_f32) kt
    (constant S256x9 .f32 0x00000000#32)
  addf (addf (extractStridedSlice S256x3 ![0, 0] c slices_S256x9_o0_0_S256x3) (extractStridedSlice S256x3 ![0, 3] c slices_S256x9_o0_3_S256x3))
    (extractStridedSlice S256x3 ![0, 6] c slices_S256x9_o0_6_S256x3)

theorem ohV_apply (d fi : FVec Ideal S256x4096 .f32) (hfi : ∀ l j, fi (ix2 l j) = ((j : ℕ) : EReal)) (l : Fin 256) (j : Fin 4096) :
    ohV d fi (ix2 l j) = oneHot (fun k => d (ix2 l k)) j := by
  pointwise [ohV]
  simp only [hfi, ofBits_top, ofBits_one, ofBits_count]
  rfl

theorem nextV_apply (d o : FVec Ideal S256x4096 .f32) (l : Fin 256) (j : Fin 4096) :
    nextV d o (ix2 l j) = d (ix2 l j) + o (ix2 l j) * ⊤ := by
  pointwise [nextV]
  simp only [far_eq]

theorem extV_apply (o : FVec Ideal S256x4096 .f32) (kt : FVec Ideal S4096x9 .bf16) (l : Fin 256) (c : Fin 3) :
    extV o kt (ix2 l c) = (∑ j, o (ix2 l j) * kt (ix2 j ⟨c, by omega⟩)) + (∑ j, o (ix2 l j) * kt (ix2 j ⟨3 + c, by omega⟩))
      + ∑ j, o (ix2 l j) * kt (ix2 j ⟨6 + c, by omega⟩) := by
  pointwise [extV]

/-- The distances after `t` rounds. -/
def DV (d fi : FVec Ideal S256x4096 .f32) : ℕ → FVec Ideal S256x4096 .f32
  | 0 => d
  | t + 1 => nextV (DV d fi t) (ohV (DV d fi t) fi)

theorem DV_apply (d fi : FVec Ideal S256x4096 .f32) (hfi : ∀ l j, fi (ix2 l j) = ((j : ℕ) : EReal))
    (hd : ∀ l j, d (ix2 l j) ≠ ⊥) (t : ℕ) (l : Fin 256) (j : Fin 4096) :
    DV d fi t (ix2 l j) = rounds (fun k => d (ix2 l k)) t j := by
  induction t generalizing j with
  | zero => rfl
  | succ t ih =>
    rw [DV, nextV_apply, ohV_apply _ _ hfi]
    simp only [ih]
    exact next_eq _ (rounds_ne_bot _ (hd l) t) j

/-- What round `t` extracts: the coordinates of the point it picks. -/
theorem ext_apply (d fi : FVec Ideal S256x4096 .f32) (kt : FVec Ideal S4096x9 .bf16) (hfi : ∀ l j, fi (ix2 l j) = ((j : ℕ) : EReal))
    (hd : ∀ l j, d (ix2 l j) ≠ ⊥) (t : ℕ) (l : Fin 256) (c : Fin 3) :
    extV (ohV (DV d fi t) fi) kt (ix2 l c)
      = kt (ix2 (sel (fun k => d (ix2 l k)) t) ⟨c, by omega⟩) + kt (ix2 (sel (fun k => d (ix2 l k)) t) ⟨3 + c, by omega⟩)
        + kt (ix2 (sel (fun k => d (ix2 l k)) t) ⟨6 + c, by omega⟩) := by
  rw [extV_apply]
  simp only [ohV_apply _ _ hfi, DV_apply d fi hfi hd]
  rw [oneHot_sum, oneHot_sum, oneHot_sum]
  rfl

/-! ## The kernel's own values -/

section
open kernelRun0_A

variable (c : Dev nD) (arg2 : Memref sig .tc .vmem S1x3x4096 .f32) (harg2 : arg2.IsWhole)
  (arg3 : Memref sig .tc .vmem S1x3x256 .f32) (harg3 : arg3.IsWhole) (x0 : Vec Ideal S1x3x4096 .f32) (x1 : Vec Ideal S1x3x256 .f32)

theorem v1_apply (k : Fin 3) (j : Fin 4096) : sl.v1 c arg2 harg2 x0 (ix2 k j) = x0 (ix3 0 k j) := by
  unfold sl.v1
  rw [View.readAt_eq_ld, Memref.IsWhole.read_unread]
  pointwise []

theorem v6_apply (k : Fin 3) (l : Fin 256) : sl.v6 c arg3 harg3 x1 (ix2 k l) = x1 (ix3 0 k l) := by
  unfold sl.v6
  rw [View.readAt_eq_ld, Memref.IsWhole.read_unread]
  pointwise []

theorem ofBits_two : Ideal.ofBits .f32 0x40000000#32 = 2 := by
  simp [Ideal.ofBits, Ideal.ieee, -EReal.coe_mul]; norm_num; rfl

theorem v19_apply (l : Fin 256) (j : Fin 4096) :
    sl.v19 c arg2 harg2 arg3 harg3 x0 x1 (ix2 l j) = Spec.dist (fun k => x1 (ix3 0 k l)) (fun k j => x0 (ix3 0 k j)) j := by
  pointwise [sl.v19, sl.v16, sl.v18, sl.v14, sl.v15, sl.v17, sl.v13, sl.v10, sl.v9, sl.v8, sl.v7, sl.v4, sl.v3, sl.v2, sl.v11, sl.v12, sl.cst_7, sl.cst_6]
  simp only [v1_apply, v6_apply, ofBits_two]
  rfl

theorem v30_apply (l : Fin 256) (j : Fin 4096) : (sl.v30 : FVec Ideal S256x4096 .f32) (ix2 l j) = ((j : ℕ) : EReal) := by
  pointwise [sl.v30, sl.v20]
  show (((BitVec.ofNat 32 (j : ℕ)).toInt : ℝ) : EReal) = _
  have : (BitVec.ofNat 32 (j : ℕ)).toInt = (j : ℕ) := by
    have := j.2
    rw [BitVec.toInt_eq_toNat_of_lt (by rw [BitVec.toNat_ofNat]; omega), BitVec.toNat_ofNat]
    omega
  rw [this]; norm_cast

variable (hx0 : ∀ k j, ∃ r : ℝ, x0 (ix3 0 k j) = (r : EReal)) (hx1 : ∀ k l, ∃ r : ℝ, x1 (ix3 0 k l) = (r : EReal))

include hx0 in
theorem v29_apply (j : Fin 4096) (k : Fin 9) :
    sl.v29 c arg2 harg2 x0 (ix2 j k) = (if h : k.val < 3 then x0 (ix3 0 ⟨k, h⟩ j) else 0) := by
  pointwise [sl.v29, sl.v28, sl.v27, sl.v22, sl.v25, sl.v26, sl.v23, sl.v24, sl.v12]
  simp only [v1_apply]
  split
  · rfl
  · split <;> simp only [Spec.sub_self_finite _ (hx0 _ _), sub_zero]

/-- The distances of query `l`. -/
abbrev dst (l : Fin 256) : Fin 4096 → EReal := Spec.dist (fun k => x1 (ix3 0 k l)) (fun k j => x0 (ix3 0 k j))

theorem v19_fun (l : Fin 256) : (fun k => sl.v19 c arg2 harg2 arg3 harg3 x0 x1 (ix2 l k)) = dst x0 x1 l :=
  funext fun k => v19_apply c arg2 harg2 arg3 harg3 x0 x1 l k

include hx0 hx1 in
theorem pick_apply (t : ℕ) (l : Fin 256) (k : Fin 3) :
    extV (ohV (DV (sl.v19 c arg2 harg2 arg3 harg3 x0 x1) sl.v30 t) sl.v30) (sl.v29 c arg2 harg2 x0) (ix2 l k)
      = x0 (ix3 0 k (sel (dst x0 x1 l) t)) := by
  rw [ext_apply _ _ _ v30_apply _ t l k, v19_fun]
  · rw [v29_apply c arg2 harg2 x0 hx0, v29_apply c arg2 harg2 x0 hx0, v29_apply c arg2 harg2 x0 hx0,
      dif_pos k.2, dif_neg (show ¬ 3 + k.val < 3 by omega), dif_neg (show ¬ 6 + k.val < 3 by omega), add_zero, add_zero]
  · intro l j
    rw [v19_apply]
    obtain ⟨r, hr⟩ := Spec.dist_finite (fun k => x1 (ix3 0 k l)) (fun k j => x0 (ix3 0 k j)) (fun k => hx1 k l) hx0 j
    rw [hr]; exact EReal.coe_ne_bot r

theorem r_1_eq : sl.r_1 c arg2 harg2 arg3 harg3 x0 x1 = DV (sl.v19 c arg2 harg2 arg3 harg3 x0 x1) sl.v30 2 := rfl
theorem r_2_eq : sl.r_2 c arg2 harg2 arg3 harg3 x0 x1 = ohV (DV (sl.v19 c arg2 harg2 arg3 harg3 x0 x1) sl.v30 2) sl.v30 := rfl
theorem r_7_eq : sl.r_7 c arg2 harg2 arg3 harg3 x0 x1 = DV (sl.v19 c arg2 harg2 arg3 harg3 x0 x1) sl.v30 4 := by
  unfold sl.r_7; rw [r_1_eq, r_2_eq]; rfl
theorem r_8_eq : sl.r_8 c arg2 harg2 arg3 harg3 x0 x1 = ohV (DV (sl.v19 c arg2 harg2 arg3 harg3 x0 x1) sl.v30 4) sl.v30 := by
  unfold sl.r_8; rw [r_1_eq, r_2_eq]; rfl
theorem r_13_eq : sl.r_13 c arg2 harg2 arg3 harg3 x0 x1 = DV (sl.v19 c arg2 harg2 arg3 harg3 x0 x1) sl.v30 6 := by
  unfold sl.r_13; rw [r_7_eq, r_8_eq]; rfl
theorem r_14_eq : sl.r_14 c arg2 harg2 arg3 harg3 x0 x1 = ohV (DV (sl.v19 c arg2 harg2 arg3 harg3 x0 x1) sl.v30 6) sl.v30 := by
  unfold sl.r_14; rw [r_7_eq, r_8_eq]; rfl

theorem e1 : sl.r c arg2 harg2 arg3 harg3 x0 x1 = extV (ohV (DV (sl.v19 c arg2 harg2 arg3 harg3 x0 x1) sl.v30 1) sl.v30) (sl.v29 c arg2 harg2 x0) := rfl
theorem e2 : sl.r_5 c arg2 harg2 arg3 harg3 x0 x1 = extV (ohV (DV (sl.v19 c arg2 harg2 arg3 harg3 x0 x1) sl.v30 2) sl.v30) (sl.v29 c arg2 harg2 x0) := rfl
theorem e3 : sl.r_6 c arg2 harg2 arg3 harg3 x0 x1 = extV (ohV (DV (sl.v19 c arg2 harg2 arg3 harg3 x0 x1) sl.v30 3) sl.v30) (sl.v29 c arg2 harg2 x0) := by unfold sl.r_6; rw [r_1_eq, r_2_eq]; rfl
theorem e4 : sl.r_11 c arg2 harg2 arg3 harg3 x0 x1 = extV (ohV (DV (sl.v19 c arg2 harg2 arg3 harg3 x0 x1) sl.v30 4) sl.v30) (sl.v29 c arg2 harg2 x0) := by
  unfold sl.r_11 sl.r_9 sl.r_10; rw [r_1_eq, r_2_eq]; rfl
theorem e5 : sl.r_12 c arg2 harg2 arg3 harg3 x0 x1 = extV (ohV (DV (sl.v19 c arg2 harg2 arg3 harg3 x0 x1) sl.v30 5) sl.v30) (sl.v29 c arg2 harg2 x0) := by unfold sl.r_12; rw [r_7_eq, r_8_eq]; rfl
theorem e6 : sl.r_17 c arg2 harg2 arg3 harg3 x0 x1 = extV (ohV (DV (sl.v19 c arg2 harg2 arg3 harg3 x0 x1) sl.v30 6) sl.v30) (sl.v29 c arg2 harg2 x0) := by
  unfold sl.r_17 sl.r_15 sl.r_16; rw [r_7_eq, r_8_eq]; rfl
theorem e7 : sl.r_18 c arg2 harg2 arg3 harg3 x0 x1 = extV (ohV (DV (sl.v19 c arg2 harg2 arg3 harg3 x0 x1) sl.v30 7) sl.v30) (sl.v29 c arg2 harg2 x0) := by unfold sl.r_18; rw [r_13_eq, r_14_eq]; rfl
theorem e8 : sl.v227 c arg2 harg2 arg3 harg3 x0 x1 = extV (ohV (DV (sl.v19 c arg2 harg2 arg3 harg3 x0 x1) sl.v30 8) sl.v30) (sl.v29 c arg2 harg2 x0) := by
  unfold sl.v227 sl.r_19 sl.r_20; rw [r_13_eq, r_14_eq]; rfl

end

end Cert.Proof.KRounds

end

end
-- ==== Proof.KFeat.lean ====
/- The kernel's feature stage after the selection, read entry by entry. -/
module

public import proofs.«01_k».proof.Proof.KRounds

@[expose] public section

noncomputable section

open Idealize.ShloMosaic Idealize.ShloMosaic.TcCoe
open Cert.KernelIdeal Cert.KernelIdeal.Gen
open Cert.Proof.Order Cert.Proof.KRounds

namespace Cert.Proof.KFeat

section
open kernelRun0_A

variable (c : Dev nD) (arg2 : Memref sig .tc .vmem S1x3x4096 .f32) (harg2 : arg2.IsWhole)
  (arg3 : Memref sig .tc .vmem S1x3x256 .f32) (harg3 : arg3.IsWhole) (x0 : Vec Ideal S1x3x4096 .f32) (x1 : Vec Ideal S1x3x256 .f32)

variable (hx0 : ∀ k j, ∃ r : ℝ, x0 (ix3 0 k j) = (r : EReal)) (hx1 : ∀ k l, ∃ r : ℝ, x1 (ix3 0 k l) = (r : EReal))

/-- The neighbours of query `l`, relative to it. -/
abbrev nbr (l : Fin 256) : Fin 3 → Fin 8 → EReal := Spec.rel (fun k => x1 (ix3 0 k l)) (fun k j => x0 (ix3 0 k j))

include hx0 hx1 in
theorem v261_apply (g : Fin 8) (l : Fin 256) : sl.v261 c arg2 harg2 arg3 harg3 x0 x1 (ix2 g l) = nbr x0 x1 l 0 g := by
  pointwise [sl.v261, sl.v232, sl.v231, sl.v229, sl.v230, sl.v228, sl.v236, sl.v235, sl.v233, sl.v240, sl.v239, sl.v237, sl.v244, sl.v243, sl.v241, sl.v248, sl.v247, sl.v245, sl.v252, sl.v251, sl.v249, sl.v256, sl.v255, sl.v253, sl.v260, sl.v259, sl.v257]
  simp only [v6_apply]
  simp only [e1, e2, e3, e4, e5, e6, e7, e8, pick_apply c arg2 harg2 arg3 harg3 x0 x1 hx0 hx1]
  fin_cases g <;> rfl

include hx0 hx1 in
theorem v294_apply (g : Fin 8) (l : Fin 256) : sl.v294 c arg2 harg2 arg3 harg3 x0 x1 (ix2 g l) = nbr x0 x1 l 1 g := by
  pointwise [sl.v294, sl.v265, sl.v264, sl.v262, sl.v263, sl.v228, sl.v269, sl.v268, sl.v266, sl.v273, sl.v272, sl.v270, sl.v277, sl.v276, sl.v274, sl.v281, sl.v280, sl.v278, sl.v285, sl.v284, sl.v282, sl.v289, sl.v288, sl.v286, sl.v293, sl.v292, sl.v290]
  simp only [v6_apply]
  simp only [e1, e2, e3, e4, e5, e6, e7, e8, pick_apply c arg2 harg2 arg3 harg3 x0 x1 hx0 hx1]
  fin_cases g <;> rfl

include hx0 hx1 in
theorem v327_apply (g : Fin 8) (l : Fin 256) : sl.v327 c arg2 harg2 arg3 harg3 x0 x1 (ix2 g l) = nbr x0 x1 l 2 g := by
  pointwise [sl.v327, sl.v298, sl.v297, sl.v295, sl.v296, sl.v228, sl.v302, sl.v301, sl.v299, sl.v306, sl.v305, sl.v303, sl.v310, sl.v309, sl.v307, sl.v314, sl.v313, sl.v311, sl.v318, sl.v317, sl.v315, sl.v322, sl.v321, sl.v319, sl.v326, sl.v325, sl.v323]
  simp only [v6_apply]
  simp only [e1, e2, e3, e4, e5, e6, e7, e8, pick_apply c arg2 harg2 arg3 harg3 x0 x1 hx0 hx1]
  fin_cases g <;> rfl

include hx0 hx1 in
theorem v346_apply (g : Fin 8) (l : Fin 256) : sl.v346 c arg2 harg2 arg3 harg3 x0 x1 (ix2 g l) = Spec.key (nbr x0 x1 l) g := by
  pointwise [sl.v346, sl.v332, sl.v330, sl.v328, sl.v329, sl.v331, sl.cst_12, sl.v342, sl.v337, sl.v339, sl.v333, sl.cst_11, sl.v335, sl.v334, sl.v341]
  simp only [v261_apply c arg2 harg2 arg3 harg3 x0 x1 hx0 hx1, v294_apply c arg2 harg2 arg3 harg3 x0 x1 hx0 hx1, ofBits_one]
  rfl

theorem fold_one (b : Bool) : Finset.univ.fold IntOp.addi (0#32) (fun _ : Fin 1 => BitVec.setWidth 32 (BitVec.ofBool b))
    = BitVec.setWidth 32 (BitVec.ofBool b) := by
  cases b <;> rfl

include hx0 hx1 in
theorem v443_apply (g : Fin 8) (l : Fin 256) :
    sl.v443 c arg2 harg2 arg3 harg3 x0 x1 (ix2 g l) = BitVec.ofNat 32 (rank (Spec.key (nbr x0 x1 l)) g) := by
  pointwise [sl.v443, sl.v352, sl.v351, sl.v350, sl.v349, sl.v348, sl.v347, sl.v364, sl.v358, sl.v357, sl.v356, sl.v355, sl.v354, sl.v353, sl.v363, sl.v362, sl.v361, sl.v360, sl.v377, sl.v370, sl.v369, sl.v368, sl.v367, sl.v366, sl.v365, sl.v376, sl.v375, sl.v374, sl.v373, sl.v371, sl.v372, sl.v390, sl.v383, sl.v382, sl.v381, sl.v380, sl.v379, sl.v378, sl.v389, sl.v388, sl.v387, sl.v386, sl.v384, sl.v385, sl.v403, sl.v396, sl.v395, sl.v394, sl.v393, sl.v392, sl.v391, sl.v402, sl.v401, sl.v400, sl.v399, sl.v397, sl.v398, sl.v416, sl.v409, sl.v408, sl.v407, sl.v406, sl.v405, sl.v404, sl.v415, sl.v414, sl.v413, sl.v412, sl.v410, sl.v411, sl.v429, sl.v422, sl.v421, sl.v420, sl.v419, sl.v418, sl.v417, sl.v428, sl.v427, sl.v426, sl.v425, sl.v423, sl.v424, sl.v442, sl.v435, sl.v434, sl.v433, sl.v432, sl.v431, sl.v430, sl.v441, sl.v440, sl.v439, sl.v438, sl.v436, sl.v437]
  simp only [v346_apply c arg2 harg2 arg3 harg3 x0 x1 hx0 hx1]
  rw [rank_split, BitVec.ofNat_add]
  simp only [fold_bits]
  fin_cases g
  · simp
  · simp [IntOp.addi]
  all_goals rfl

theorem select_eq_word (a b : BitVec 32) (x y : EReal) :
    (Scalar.select (IntOp.cmpi .eq a b) x y : EReal) = if a = b then x else y := by
  by_cases h : a = b
  · simp [Scalar.select, IntOp.cmpi, h]
  · have h' : (a == b) = false := by simpa using h
    simp [Scalar.select, IntOp.cmpi, h, h']

include hx0 hx1 in
theorem v492_apply (g : Fin 8) (l : Fin 256) : sl.v492 c arg2 harg2 arg3 harg3 x0 x1 (ix2 g l) = Spec.srt (nbr x0 x1 l) 0 g := by
  pointwise [sl.v492, sl.v449, sl.v448, sl.v447, sl.v445, sl.v444, sl.v331, sl.cst_12, sl.v455, sl.v454, sl.v453, sl.v451, sl.v450, sl.v461, sl.v460, sl.v459, sl.v457, sl.v456, sl.v467, sl.v466, sl.v465, sl.v463, sl.v462, sl.v473, sl.v472, sl.v471, sl.v469, sl.v468, sl.v479, sl.v478, sl.v477, sl.v475, sl.v474, sl.v485, sl.v484, sl.v483, sl.v481, sl.v480, sl.v491, sl.v490, sl.v489, sl.v487, sl.v486]
  simp only [v443_apply c arg2 harg2 arg3 harg3 x0 x1 hx0 hx1, v261_apply c arg2 harg2 arg3 harg3 x0 x1 hx0 hx1, select_eq_word]
  refine Eq.trans ?_ (sum_rank_word (Spec.key (nbr x0 x1 l)) (nbr x0 x1 l 0) g)
  fin_cases g <;> rfl

include hx0 hx1 in
theorem v541_apply (g : Fin 8) (l : Fin 256) : sl.v541 c arg2 harg2 arg3 harg3 x0 x1 (ix2 g l) = Spec.srt (nbr x0 x1 l) 1 g := by
  pointwise [sl.v541, sl.v498, sl.v497, sl.v496, sl.v445, sl.v444, sl.v331, sl.cst_12, sl.v504, sl.v503, sl.v502, sl.v451, sl.v450, sl.v510, sl.v509, sl.v508, sl.v457, sl.v456, sl.v516, sl.v515, sl.v514, sl.v463, sl.v462, sl.v522, sl.v521, sl.v520, sl.v469, sl.v468, sl.v528, sl.v527, sl.v526, sl.v475, sl.v474, sl.v534, sl.v533, sl.v532, sl.v481, sl.v480, sl.v540, sl.v539, sl.v538, sl.v487, sl.v486]
  simp only [v443_apply c arg2 harg2 arg3 harg3 x0 x1 hx0 hx1, v294_apply c arg2 harg2 arg3 harg3 x0 x1 hx0 hx1, select_eq_word]
  refine Eq.trans ?_ (sum_rank_word (Spec.key (nbr x0 x1 l)) (nbr x0 x1 l 1) g)
  fin_cases g <;> rfl

include hx0 hx1 in
theorem v590_apply (g : Fin 8) (l : Fin 256) : sl.v590 c arg2 harg2 arg3 harg3 x0 x1 (ix2 g l) = Spec.srt (nbr x0 x1 l) 2 g := by
  pointwise [sl.v590, sl.v547, sl.v546, sl.v545, sl.v445, sl.v444, sl.v331, sl.cst_12, sl.v553, sl.v552, sl.v551, sl.v451, sl.v450, sl.v559, sl.v558, sl.v557, sl.v457, sl.v456, sl.v565, sl.v564, sl.v563, sl.v463, sl.v462, sl.v571, sl.v570, sl.v569, sl.v469, sl.v468, sl.v577, sl.v576, sl.v575, sl.v475, sl.v474, sl.v583, sl.v582, sl.v581, sl.v481, sl.v480, sl.v589, sl.v588, sl.v587, sl.v487, sl.v486]
  simp only [v443_apply c arg2 harg2 arg3 harg3 x0 x1 hx0 hx1, v327_apply c arg2 harg2 arg3 harg3 x0 x1 hx0 hx1, select_eq_word]
  refine Eq.trans ?_ (sum_rank_word (Spec.key (nbr x0 x1 l)) (nbr x0 x1 l 2) g)
  fin_cases g <;> rfl

include hx0 hx1 in
theorem v593_apply (g : Fin 8) (l : Fin 256) : sl.v593 c arg2 harg2 arg3 harg3 x0 x1 (ix2 g l) = Spec.rot (Spec.srt (nbr x0 x1 l)) 0 g := by
  pointwise [sl.v593, sl.v591, sl.v592]
  simp only [v492_apply c arg2 harg2 arg3 harg3 x0 x1 hx0 hx1]
  fin_cases g <;> rfl

include hx0 hx1 in
theorem v596_apply (g : Fin 8) (l : Fin 256) : sl.v596 c arg2 harg2 arg3 harg3 x0 x1 (ix2 g l) = Spec.rot (Spec.srt (nbr x0 x1 l)) 1 g := by
  pointwise [sl.v596, sl.v594, sl.v595]
  simp only [v541_apply c arg2 harg2 arg3 harg3 x0 x1 hx0 hx1]
  fin_cases g <;> rfl

include hx0 hx1 in
theorem v599_apply (g : Fin 8) (l : Fin 256) : sl.v599 c arg2 harg2 arg3 harg3 x0 x1 (ix2 g l) = Spec.rot (Spec.srt (nbr x0 x1 l)) 2 g := by
  pointwise [sl.v599, sl.v597, sl.v598]
  simp only [v590_apply c arg2 harg2 arg3 harg3 x0 x1 hx0 hx1]
  fin_cases g <;> rfl

theorem ofBits_neg_one : Ideal.ofBits .f32 0xBF800000#32 = -1 := by
  simp [Ideal.ofBits, Ideal.ieee, -EReal.coe_mul]; norm_num

theorem ofBits_three : Ideal.ofBits .f32 0x40400000#32 = ((3 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem inv_pi_eq : (Named.named κ "inv_pi" 0x3EA2F983#32 : Ideal .f32) = ((Real.pi⁻¹ : ℝ) : EReal) :=
  IdealRules.named_const.ideal_named_scalar _ _ _ _ rfl

theorem inv_two_pi_eq : (Named.named κ "inv_two_pi" 0x3E22F983#32 : Ideal .f32) = (((2 * Real.pi)⁻¹ : ℝ) : EReal) :=
  IdealRules.named_const.ideal_named_scalar _ _ _ _ rfl

include hx0 hx1 in
theorem v632_apply (g : Fin 8) (l : Fin 256) : sl.v632 c arg2 harg2 arg3 harg3 x0 x1 (ix2 g l) = Spec.ctr (Spec.srt (nbr x0 x1 l)) 0 g := by
  pointwise [sl.v632, sl.v630, sl.v631, sl.cst_158]
  simp only [v492_apply c arg2 harg2 arg3 harg3 x0 x1 hx0 hx1, v541_apply c arg2 harg2 arg3 harg3 x0 x1 hx0 hx1, v590_apply c arg2 harg2 arg3 harg3 x0 x1 hx0 hx1, v593_apply c arg2 harg2 arg3 harg3 x0 x1 hx0 hx1, v596_apply c arg2 harg2 arg3 harg3 x0 x1 hx0 hx1, v599_apply c arg2 harg2 arg3 harg3 x0 x1 hx0 hx1, ofBits_three]
  rfl

include hx0 hx1 in
theorem v635_apply (g : Fin 8) (l : Fin 256) : sl.v635 c arg2 harg2 arg3 harg3 x0 x1 (ix2 g l) = Spec.ctr (Spec.srt (nbr x0 x1 l)) 1 g := by
  pointwise [sl.v635, sl.v633, sl.v631, sl.cst_158]
  simp only [v492_apply c arg2 harg2 arg3 harg3 x0 x1 hx0 hx1, v541_apply c arg2 harg2 arg3 harg3 x0 x1 hx0 hx1, v590_apply c arg2 harg2 arg3 harg3 x0 x1 hx0 hx1, v593_apply c arg2 harg2 arg3 harg3 x0 x1 hx0 hx1, v596_apply c arg2 harg2 arg3 harg3 x0 x1 hx0 hx1, v599_apply c arg2 harg2 arg3 harg3 x0 x1 hx0 hx1, ofBits_three]
  rfl

include hx0 hx1 in
theorem v638_apply (g : Fin 8) (l : Fin 256) : sl.v638 c arg2 harg2 arg3 harg3 x0 x1 (ix2 g l) = Spec.ctr (Spec.srt (nbr x0 x1 l)) 2 g := by
  pointwise [sl.v638, sl.v636, sl.v631, sl.cst_158]
  simp only [v492_apply c arg2 harg2 arg3 harg3 x0 x1 hx0 hx1, v541_apply c arg2 harg2 arg3 harg3 x0 x1 hx0 hx1, v590_apply c arg2 harg2 arg3 harg3 x0 x1 hx0 hx1, v593_apply c arg2 harg2 arg3 harg3 x0 x1 hx0 hx1, v596_apply c arg2 harg2 arg3 harg3 x0 x1 hx0 hx1, v599_apply c arg2 harg2 arg3 harg3 x0 x1 hx0 hx1, ofBits_three]
  rfl

include hx0 hx1 in
theorem v615_apply (g : Fin 8) (l : Fin 256) : sl.v615 c arg2 harg2 arg3 harg3 x0 x1 (ix2 g l) = Spec.unit (Spec.srt (nbr x0 x1 l)) 0 g := by
  pointwise [sl.v615, sl.v602, sl.v600, sl.v601, sl.v614, sl.v613, sl.v611, sl.v609, sl.v610, sl.v605, sl.v603, sl.v604, sl.v612, sl.v608, sl.v606, sl.v607]
  simp only [v492_apply c arg2 harg2 arg3 harg3 x0 x1 hx0 hx1, v541_apply c arg2 harg2 arg3 harg3 x0 x1 hx0 hx1, v590_apply c arg2 harg2 arg3 harg3 x0 x1 hx0 hx1, v593_apply c arg2 harg2 arg3 harg3 x0 x1 hx0 hx1, v596_apply c arg2 harg2 arg3 harg3 x0 x1 hx0 hx1, v599_apply c arg2 harg2 arg3 harg3 x0 x1 hx0 hx1]
  rfl

include hx0 hx1 in
theorem v616_apply (g : Fin 8) (l : Fin 256) : sl.v616 c arg2 harg2 arg3 harg3 x0 x1 (ix2 g l) = Spec.unit (Spec.srt (nbr x0 x1 l)) 1 g := by
  pointwise [sl.v616, sl.v605, sl.v603, sl.v604, sl.v614, sl.v613, sl.v611, sl.v609, sl.v602, sl.v600, sl.v601, sl.v610, sl.v612, sl.v608, sl.v606, sl.v607]
  simp only [v492_apply c arg2 harg2 arg3 harg3 x0 x1 hx0 hx1, v541_apply c arg2 harg2 arg3 harg3 x0 x1 hx0 hx1, v590_apply c arg2 harg2 arg3 harg3 x0 x1 hx0 hx1, v593_apply c arg2 harg2 arg3 harg3 x0 x1 hx0 hx1, v596_apply c arg2 harg2 arg3 harg3 x0 x1 hx0 hx1, v599_apply c arg2 harg2 arg3 harg3 x0 x1 hx0 hx1]
  rfl

include hx0 hx1 in
theorem v617_apply (g : Fin 8) (l : Fin 256) : sl.v617 c arg2 harg2 arg3 harg3 x0 x1 (ix2 g l) = Spec.unit (Spec.srt (nbr x0 x1 l)) 2 g := by
  pointwise [sl.v617, sl.v608, sl.v606, sl.v607, sl.v614, sl.v613, sl.v611, sl.v609, sl.v602, sl.v600, sl.v601, sl.v610, sl.v605, sl.v603, sl.v604, sl.v612]
  simp only [v492_apply c arg2 harg2 arg3 harg3 x0 x1 hx0 hx1, v541_apply c arg2 harg2 arg3 harg3 x0 x1 hx0 hx1, v590_apply c arg2 harg2 arg3 harg3 x0 x1 hx0 hx1, v593_apply c arg2 harg2 arg3 harg3 x0 x1 hx0 hx1, v596_apply c arg2 harg2 arg3 harg3 x0 x1 hx0 hx1, v599_apply c arg2 harg2 arg3 harg3 x0 x1 hx0 hx1]
  rfl

include hx0 hx1 in
theorem v625_apply (g : Fin 8) (l : Fin 256) : sl.v625 c arg2 harg2 arg3 harg3 x0 x1 (ix2 g l) = Spec.normal (Spec.srt (nbr x0 x1 l)) 0 g := by
  pointwise [sl.v625, sl.v624, sl.v623, sl.v620, sl.v618, sl.v619, sl.cst_12, sl.v621, sl.cst_11, sl.v622, sl.cst_157]
  simp only [v615_apply c arg2 harg2 arg3 harg3 x0 x1 hx0 hx1, v615_apply c arg2 harg2 arg3 harg3 x0 x1 hx0 hx1, ofBits_one, ofBits_neg_one]
  rfl

include hx0 hx1 in
theorem v627_apply (g : Fin 8) (l : Fin 256) : sl.v627 c arg2 harg2 arg3 harg3 x0 x1 (ix2 g l) = Spec.normal (Spec.srt (nbr x0 x1 l)) 1 g := by
  pointwise [sl.v627, sl.v624, sl.v623, sl.v620, sl.v618, sl.v619, sl.cst_12, sl.v621, sl.cst_11, sl.v622, sl.cst_157]
  simp only [v615_apply c arg2 harg2 arg3 harg3 x0 x1 hx0 hx1, v616_apply c arg2 harg2 arg3 harg3 x0 x1 hx0 hx1, ofBits_one, ofBits_neg_one]
  rfl

include hx0 hx1 in
theorem v629_apply (g : Fin 8) (l : Fin 256) : sl.v629 c arg2 harg2 arg3 harg3 x0 x1 (ix2 g l) = Spec.normal (Spec.srt (nbr x0 x1 l)) 2 g := by
  pointwise [sl.v629, sl.v624, sl.v623, sl.v620, sl.v618, sl.v619, sl.cst_12, sl.v621, sl.cst_11, sl.v622, sl.cst_157]
  simp only [v615_apply c arg2 harg2 arg3 harg3 x0 x1 hx0 hx1, v617_apply c arg2 harg2 arg3 harg3 x0 x1 hx0 hx1, ofBits_one, ofBits_neg_one]
  rfl

include hx0 hx1 in
theorem v644_apply (g : Fin 8) (l : Fin 256) : sl.v644 c arg2 harg2 arg3 harg3 x0 x1 (ix2 g l) = Spec.rho (Spec.srt (nbr x0 x1 l)) g := by
  pointwise [sl.v644, sl.v643, sl.v641, sl.v639, sl.v640, sl.v642]
  simp only [v632_apply c arg2 harg2 arg3 harg3 x0 x1 hx0 hx1, v635_apply c arg2 harg2 arg3 harg3 x0 x1 hx0 hx1, v638_apply c arg2 harg2 arg3 harg3 x0 x1 hx0 hx1]
  rfl

include hx0 hx1 in
theorem v653_apply (g : Fin 8) (l : Fin 256) : sl.v653 c arg2 harg2 arg3 harg3 x0 x1 (ix2 g l) = Spec.ratio (Spec.srt (nbr x0 x1 l)) g := by
  pointwise [sl.v653, sl.v333, sl.cst_11, sl.v651, sl.v650, sl.cst_157, sl.v649, sl.v648, sl.v646, sl.v331, sl.cst_12]
  simp only [v632_apply c arg2 harg2 arg3 harg3 x0 x1 hx0 hx1, v635_apply c arg2 harg2 arg3 harg3 x0 x1 hx0 hx1, v638_apply c arg2 harg2 arg3 harg3 x0 x1 hx0 hx1, v644_apply c arg2 harg2 arg3 harg3 x0 x1 hx0 hx1, ofBits_one, ofBits_neg_one]
  rfl

include hx0 hx1 in
theorem r_21_apply (g : Fin 8) (l : Fin 256) : sl.r_21 c arg2 harg2 arg3 harg3 x0 x1 (ix2 g l) = Spec.theta (Spec.srt (nbr x0 x1 l)) g := by
  pointwise [sl.r_21, sl.v658, sl.v655, sl.v333, sl.cst_11, sl.v657, sl.v331, sl.cst_12, k0_pay108]
  simp only [v644_apply c arg2 harg2 arg3 harg3 x0 x1 hx0 hx1, v653_apply c arg2 harg2 arg3 harg3 x0 x1 hx0 hx1, ofBits_one, inv_pi_eq]
  rfl

include hx0 hx1 in
theorem r_22_apply (g : Fin 8) (l : Fin 256) : sl.r_22 c arg2 harg2 arg3 harg3 x0 x1 (ix2 g l) = Spec.phi (Spec.srt (nbr x0 x1 l)) g := by
  pointwise [sl.r_22, k0_pay109]
  simp only [v632_apply c arg2 harg2 arg3 harg3 x0 x1 hx0 hx1, v635_apply c arg2 harg2 arg3 harg3 x0 x1 hx0 hx1, v638_apply c arg2 harg2 arg3 harg3 x0 x1 hx0 hx1, ofBits_half, inv_two_pi_eq]
  rfl

end

end Cert.Proof.KFeat

end

end
-- ==== Proof.KOut.lean ====
/- The block the feature stage stores at one grid point. -/
module

public import proofs.«01_k».proof.Proof.KFeat

@[expose] public section

noncomputable section

open Idealize.ShloMosaic Idealize.ShloMosaic.TcCoe
open Cert.KernelIdeal Cert.KernelIdeal.Gen
open Cert.Proof.Order Cert.Proof.KRounds Cert.Proof.KFeat

namespace Cert.Proof.KOut

/-- Where the mask is clear a select takes its second value. -/
theorem sel0 {s : Shape} {α : Type} (b : IVec s 1) (x y : s.Idx → α) (i : s.Idx) (h : b i = 0#1) : select b x y i = y i := by
  show Scalar.select (b i) (x i) (y i) = y i
  rw [h]; rfl

section
open kernelRun0_A

variable (c : Dev nD) (arg2 : Memref sig .tc .vmem S1x3x4096 .f32) (harg2 : arg2.IsWhole)
  (arg3 : Memref sig .tc .vmem S1x3x256 .f32) (harg3 : arg3.IsWhole) (x0 : Vec Ideal S1x3x4096 .f32) (x1 : Vec Ideal S1x3x256 .f32)

/-- Nothing is unequal to itself over the reals, so the mask is clear everywhere. -/
theorem mask_clear (a b d : FVec Ideal S8x256 .f32) (g : Fin 8) (l : Fin 256) : k0_pay110 a b d (ix2 g l) = 0#1 := by
  pointwise [k0_pay110]
  simp [IntOp.ori]

theorem cast_apply (w : FVec Ideal S8x256 .f32) (a b : Fin 1) (g : Fin 8) (l : Fin 256) :
    shapeCast S1x1x8x256 w shapeCasts_S8x256_S1x1x8x256 (ix4 a b g l) = w (ix2 g l) := by
  pointwise []

variable (hx0 : ∀ k j, ∃ r : ℝ, x0 (ix3 0 k j) = (r : EReal)) (hx1 : ∀ k l, ∃ r : ℝ, x1 (ix3 0 k l) = (r : EReal))

include hx0 hx1 in
theorem v717_apply (g : Fin 8) (l : Fin 256) : sl.v717 c arg2 harg2 arg3 harg3 x0 x1 (ix2 g l) = Spec.ctr (Spec.srt (nbr x0 x1 l)) 0 g :=
  (sel0 _ _ _ _ (mask_clear _ _ _ g l)).trans (v632_apply c arg2 harg2 arg3 harg3 x0 x1 hx0 hx1 g l)

include hx0 hx1 in
theorem v724_apply (g : Fin 8) (l : Fin 256) : sl.v724 c arg2 harg2 arg3 harg3 x0 x1 (ix2 g l) = Spec.ctr (Spec.srt (nbr x0 x1 l)) 1 g :=
  (sel0 _ _ _ _ (mask_clear _ _ _ g l)).trans (v635_apply c arg2 harg2 arg3 harg3 x0 x1 hx0 hx1 g l)

include hx0 hx1 in
theorem v731_apply (g : Fin 8) (l : Fin 256) : sl.v731 c arg2 harg2 arg3 harg3 x0 x1 (ix2 g l) = Spec.ctr (Spec.srt (nbr x0 x1 l)) 2 g :=
  (sel0 _ _ _ _ (mask_clear _ _ _ g l)).trans (v638_apply c arg2 harg2 arg3 harg3 x0 x1 hx0 hx1 g l)

include hx0 hx1 in
theorem v710_apply (g : Fin 8) (l : Fin 256) : sl.v710 c arg2 harg2 arg3 harg3 x0 x1 (ix2 g l) = Spec.normal (Spec.srt (nbr x0 x1 l)) 2 g :=
  (sel0 _ _ _ _ (mask_clear _ _ _ g l)).trans (v629_apply c arg2 harg2 arg3 harg3 x0 x1 hx0 hx1 g l)

include hx0 hx1 in
theorem r_25_apply (g : Fin 8) (l : Fin 256) : sl.r_25 c arg2 harg2 arg3 harg3 x0 x1 (ix2 g l) = Spec.normal (Spec.srt (nbr x0 x1 l)) 0 g :=
  (sel0 _ _ _ _ (mask_clear _ _ _ g l)).trans (v625_apply c arg2 harg2 arg3 harg3 x0 x1 hx0 hx1 g l)

include hx0 hx1 in
theorem r_26_apply (g : Fin 8) (l : Fin 256) : sl.r_26 c arg2 harg2 arg3 harg3 x0 x1 (ix2 g l) = Spec.normal (Spec.srt (nbr x0 x1 l)) 1 g :=
  (sel0 _ _ _ _ (mask_clear _ _ _ g l)).trans (v627_apply c arg2 harg2 arg3 harg3 x0 x1 hx0 hx1 g l)

/-- The features of the block's query `l`. -/
abbrev ft (l : Fin 256) (k : Fin 9) (g : Fin 8) : EReal := Spec.feat (fun k => x1 (ix3 0 k l)) (fun k j => x0 (ix3 0 k j)) k g

variable (i : grid0.Coords) (arg4 : Memref sig .tc .vmem S9x1x8x256 .f32) (harg4 : arg4.IsWhole)
  (arg5 : Memref sig .tc .vmem S8x128 .f32) (harg5 : arg5.IsWhole)

/-- A piece whose rows are channel `k` agrees with the features on its rectangle. -/
theorem piece_eq (k : ℕ) (hk : k < 9) (inb : ∀ a, (![k, 0, 0, 0] : Fin 4 → ℕ) a + (![1, 1, 8, 256] : Fin 4 → ℕ) a ≤ S9x1x8x256.size a)
    (w : FVec Ideal S8x256 .f32) (hw : ∀ g l, w (ix2 g l) = ft x0 x1 l ⟨k, hk⟩ g)
    (x : (Rect.unit ![k, 0, 0, 0] ![1, 1, 8, 256] inb : Rect S9x1x8x256).shape.Idx) :
    shapeCast S1x1x8x256 w shapeCasts_S8x256_S1x1x8x256 x
      = (fun y : S9x1x8x256.Idx => ft x0 x1 (y 3) (y 0) (y 2)) ((Rect.unit ![k, 0, 0, 0] ![1, 1, 8, 256] inb : Rect S9x1x8x256).emb x) := by
  have e : x = ix4 (x 0) (x 1) (x 2) (x 3) := by funext a; fin_cases a <;> rfl
  have h := (congrArg (shapeCast S1x1x8x256 w shapeCasts_S8x256_S1x1x8x256) e).trans
    ((cast_apply w (x 0) (x 1) (x 2) (x 3)).trans (hw (x 2) (x 3)))
  refine h.trans ?_
  have h0 : (x 0 : ℕ) = 0 := by have := (x 0).2; exact Nat.lt_one_iff.mp this
  have e3 : (x 3 : Fin 256) = ((Rect.unit ![k, 0, 0, 0] ![1, 1, 8, 256] inb : Rect S9x1x8x256).emb x) 3 := by
    apply Fin.ext; show (x 3 : ℕ) = 0 + 1 * (x 3 : ℕ); omega
  have e2 : (x 2 : Fin 8) = ((Rect.unit ![k, 0, 0, 0] ![1, 1, 8, 256] inb : Rect S9x1x8x256).emb x) 2 := by
    apply Fin.ext; show (x 2 : ℕ) = 0 + 1 * (x 2 : ℕ); omega
  have e0 : (⟨k, hk⟩ : Fin 9) = ((Rect.unit ![k, 0, 0, 0] ![1, 1, 8, 256] inb : Rect S9x1x8x256).emb x) 0 := by
    apply Fin.ext; show k = k + 1 * (x 0 : ℕ); omega
  show ft x0 x1 (x 3) ⟨k, hk⟩ (x 2) = ft x0 x1 _ _ _
  rw [← e3, ← e2, ← e0]

include hx0 hx1 in
theorem out_apply (y : S9x1x8x256.Idx) :
    out0_A_2 c i arg2 harg2 arg3 harg3 arg4 harg4 arg5 harg5 x0 x1 y = ft x0 x1 (y 3) (y 0) (y 2) := by
  unfold out0_A_2
  refine View.read_writes_apply_of_pieces _ _ (fun y : S9x1x8x256.Idx => ft x0 x1 (y 3) (y 0) (y 2)) _ ?_ y
    (cover0_A_2 c i arg2 harg2 arg3 harg3 arg4 harg4 arg5 harg5 x0 x1 y)
  unfold kernelRun0_A
  dsimp only
  intro p hp
  simp only [List.mem_cons, List.not_mem_nil, or_false] at hp
  rcases hp with rfl | rfl | rfl | rfl | rfl | rfl | rfl | rfl | rfl
  · intro x; exact piece_eq x0 x1 8 (by omega) inb_S9x1x8x256_S1x1x8x256_8_0_0_0 _ (fun g l => v710_apply c arg2 harg2 arg3 harg3 x0 x1 hx0 hx1 g l) x
  · intro x; exact piece_eq x0 x1 7 (by omega) inb_S9x1x8x256_S1x1x8x256_7_0_0_0 _ (fun g l => r_26_apply c arg2 harg2 arg3 harg3 x0 x1 hx0 hx1 g l) x
  · intro x; exact piece_eq x0 x1 6 (by omega) inb_S9x1x8x256_S1x1x8x256_6_0_0_0 _ (fun g l => r_25_apply c arg2 harg2 arg3 harg3 x0 x1 hx0 hx1 g l) x
  · intro x; exact piece_eq x0 x1 5 (by omega) inb_S9x1x8x256_S1x1x8x256_5_0_0_0 _ (fun g l => r_22_apply c arg2 harg2 arg3 harg3 x0 x1 hx0 hx1 g l) x
  · intro x; exact piece_eq x0 x1 4 (by omega) inb_S9x1x8x256_S1x1x8x256_4_0_0_0 _ (fun g l => r_21_apply c arg2 harg2 arg3 harg3 x0 x1 hx0 hx1 g l) x
  · intro x; exact piece_eq x0 x1 3 (by omega) inb_S9x1x8x256_S1x1x8x256_3_0_0_0 _ (fun g l => v644_apply c arg2 harg2 arg3 harg3 x0 x1 hx0 hx1 g l) x
  · intro x; exact piece_eq x0 x1 2 (by omega) inb_S9x1x8x256_S1x1x8x256_2_0_0_0 _ (fun g l => v731_apply c arg2 harg2 arg3 harg3 x0 x1 hx0 hx1 g l) x
  · intro x; exact piece_eq x0 x1 1 (by omega) inb_S9x1x8x256_S1x1x8x256_1_0_0_0 _ (fun g l => v724_apply c arg2 harg2 arg3 harg3 x0 x1 hx0 hx1 g l) x
  · intro x; exact piece_eq x0 x1 0 (by omega) inb_S9x1x8x256_S1x1x8x256_0_0_0_0 _ (fun g l => v717_apply c arg2 harg2 arg3 harg3 x0 x1 hx0 hx1 g l) x

end

end Cert.Proof.KOut

end

end
-- ==== Proof.KArr.lean ====
/- The array the feature call leaves: every element is a feature of one query point. -/
module

public import proofs.«01_k».proof.Proof.KOut
public import Idealize.ShloMosaic.Lib.Pipeline.Value

@[expose] public section

noncomputable section

open Idealize.ShloMosaic Idealize.ShloMosaic.TcCoe
open Idealize.ShloMosaic.Pipeline (Dat)
open Cert.KernelIdeal Cert.KernelIdeal.Gen
open Cert.Proof.KRounds Cert.Proof.KFeat Cert.Proof.KOut

namespace Cert.Proof.KArr

/-- Point `t` of the grid is batch `t / 16`, query block `t % 16`. -/
theorem points : ∀ t : Fin grid0.N, cc0_transform_0 (grid0.coords t) = ![t.val / 16, 0, 0]
    ∧ cc0_transform_1 (grid0.coords t) = ![t.val / 16, 0, t.val % 16] ∧ cc0_transform_2 (grid0.coords t) = ![0, t.val / 16, 0, t.val % 16] := by
  decide +kernel

theorem lt_batch (t : Fin cfg0.N) : t.val / 16 < 4 := by have : t.val < 64 := t.2; omega

/-- A feature of query `n` of batch `b`, over the whole array of points. -/
abbrev feats (A : S4x3x4096.Idx → EReal) (k : Fin 9) (b : Fin 4) (g : Fin 8) (n : Fin 4096) : EReal :=
  Spec.feat (fun k => A (ix3 b k n)) (fun k j => A (ix3 b k j)) k g

variable (V : (c : Dev nD) → (b : Ref sig .tc) → Buf (Elt Ideal) ((c : Thread nD τ).loc b)) (c : Dev nD)

theorem blk0_apply (t : Fin cfg0.N) (k : Fin 3) (j : Fin 4096) :
    iblk0 V c 0 t (ix3 0 k j) = (V c main_arg0 : S4x3x4096.Idx → EReal) (ix3 ⟨t.val / 16, lt_batch t⟩ k j) := by
  unfold iblk0
  rw [View.read_apply]
  refine congrArg (V c main_arg0 : S4x3x4096.Idx → EReal) ?_
  have e := (points t).1
  funext a; apply Fin.ext
  fin_cases a
  · show cc0_transform_0 (grid0.coords t) 0 * 1 + 1 * 0 = t.val / 16
    rw [e]; show t.val / 16 * 1 + 1 * 0 = _; omega
  · show cc0_transform_0 (grid0.coords t) 1 * 3 + 1 * k.val = k.val
    rw [e]; show 0 * 3 + 1 * k.val = _; omega
  · show cc0_transform_0 (grid0.coords t) 2 * 4096 + 1 * j.val = j.val
    rw [e]; show 0 * 4096 + 1 * j.val = _; omega

theorem lt_query (t : Fin cfg0.N) (l : Fin 256) : t.val % 16 * 256 + l.val < 4096 := by have := l.2; omega

theorem blk1_apply (t : Fin cfg0.N) (k : Fin 3) (l : Fin 256) :
    iblk0 V c 1 t (ix3 0 k l) = (V c main_arg0 : S4x3x4096.Idx → EReal) (ix3 ⟨t.val / 16, lt_batch t⟩ k ⟨t.val % 16 * 256 + l.val, lt_query t l⟩) := by
  unfold iblk0
  rw [View.read_apply]
  refine congrArg (V c main_arg0 : S4x3x4096.Idx → EReal) ?_
  have e := (points t).2.1
  funext a; apply Fin.ext
  fin_cases a
  · show cc0_transform_1 (grid0.coords t) 0 * 1 + 1 * 0 = t.val / 16
    rw [e]; show t.val / 16 * 1 + 1 * 0 = _; omega
  · show cc0_transform_1 (grid0.coords t) 1 * 3 + 1 * k.val = k.val
    rw [e]; show 0 * 3 + 1 * k.val = _; omega
  · show cc0_transform_1 (grid0.coords t) 2 * 256 + 1 * l.val = t.val % 16 * 256 + l.val
    rw [e]; show t.val % 16 * 256 + 1 * l.val = _; omega

/-- What the whole array is shown to hold. -/
abbrev G (A : S4x3x4096.Idx → EReal) : S9x4x8x4096.Idx → EReal := fun i => feats A (i 0) (i 1) (i 2) (i 3)

variable (hA : ∀ b k j, ∃ r : ℝ, (V c main_arg0 : S4x3x4096.Idx → EReal) (ix3 b k j) = (r : EReal))

include hA in
theorem flushed_eq (t : Fin cfg0.N) :
    (dat0 V c).flushed 2 t = ((cfg0.win 2).blk t).view.read (Elt Ideal) (G (V c main_arg0 : S4x3x4096.Idx → EReal)) := by
  show (cfg0.win 2).cut (grid0.coords t) ((dat0 V c).after 2 t) = _
  rw [after0_2]
  unfold outsAt0
  funext y
  rw [View.read_apply]
  have hy : (y 1 : ℕ) = 0 := by have h := (y 1).2; exact Nat.lt_one_iff.mp h
  have e := (points t).2.2
  have he : (((cfg0.win 2).blk t).view.emb y : S9x4x8x4096.Idx)
      = ix4 (y 0) ⟨t.val / 16, lt_batch t⟩ (y 2) ⟨t.val % 16 * 256 + (y 3).val, lt_query t (y 3)⟩ := by
    funext a; apply Fin.ext
    fin_cases a
    · show cc0_transform_2 (grid0.coords t) 0 * 9 + 1 * (y 0).val = (y 0).val
      rw [e]; show 0 * 9 + 1 * (y 0).val = _; omega
    · show cc0_transform_2 (grid0.coords t) 1 * 1 + 1 * (y 1).val = t.val / 16
      rw [e, hy]; show t.val / 16 * 1 + 1 * 0 = _; omega
    · show cc0_transform_2 (grid0.coords t) 2 * 8 + 1 * (y 2).val = (y 2).val
      rw [e]; show 0 * 8 + 1 * (y 2).val = _; omega
    · show cc0_transform_2 (grid0.coords t) 3 * 256 + 1 * (y 3).val = t.val % 16 * 256 + (y 3).val
      rw [e]; show t.val % 16 * 256 + 1 * (y 3).val = _; omega
  refine Eq.trans (out_apply c (ms0_0 t) (hs0_0 t) (ms0_1 t) (hs0_1 t) (iblk0 V c 0 t) (iblk0 V c 1 t)
    (fun k j => ?_) (fun k l => ?_) (grid0.coords t) (ms0_2 t) (hs0_2 t) scM0_0 (Memref.isWhole_whole _) y) ?_
  · obtain ⟨r, hr⟩ := hA ⟨t.val / 16, lt_batch t⟩ k j
    exact ⟨r, (blk0_apply V c t k j).trans hr⟩
  · obtain ⟨r, hr⟩ := hA ⟨t.val / 16, lt_batch t⟩ k ⟨t.val % 16 * 256 + l.val, lt_query t l⟩
    exact ⟨r, (blk1_apply V c t k l).trans hr⟩
  · rw [he]
    show Spec.feat _ _ (y 0) (y 2) = Spec.feat _ _ (y 0) (y 2)
    congr 1
    · funext k; exact blk1_apply V c t k (y 3)
    · funext k j; exact blk0_apply V c t k j

theorem cover (i : S9x4x8x4096.Idx) :
    ∃ t : Fin cfg0.N, (cfg0.win 2).flush t = true ∧ i ∈ ((cfg0.win 2).blk t).view.set := by
  have h0 : (i 0 : ℕ) < 9 := (i 0).isLt
  have h1 : (i 1 : ℕ) < 4 := (i 1).isLt
  have h2 : (i 2 : ℕ) < 8 := (i 2).isLt
  have h3 : (i 3 : ℕ) < 4096 := (i 3).isLt
  have hN : cfg0.N = 64 := N_0
  refine ⟨⟨(i 1 : ℕ) * 16 + (i 3 : ℕ) / 256, by omega⟩, flush0_2 _, ?_⟩
  set t : Fin cfg0.N := ⟨(i 1 : ℕ) * 16 + (i 3 : ℕ) / 256, by omega⟩ with ht
  have hv : t.val = (i 1 : ℕ) * 16 + (i 3 : ℕ) / 256 := rfl
  show i ∈ ((View.whole main_v0).slice (win0_2.rect t)).set
  rw [View.set_slice_whole, Rect.mem_set_unit]
  have e := (points t).2.2
  intro a
  match a with
  | ⟨0, _⟩ =>
    show cc0_transform_2 (grid0.coords t) 0 * 9 ≤ (i 0 : ℕ) ∧ (i 0 : ℕ) < cc0_transform_2 (grid0.coords t) 0 * 9 + 9
    rw [e]; show 0 * 9 ≤ (i 0 : ℕ) ∧ (i 0 : ℕ) < 0 * 9 + 9; omega
  | ⟨1, _⟩ =>
    show cc0_transform_2 (grid0.coords t) 1 * 1 ≤ (i 1 : ℕ) ∧ (i 1 : ℕ) < cc0_transform_2 (grid0.coords t) 1 * 1 + 1
    rw [e]; show t.val / 16 * 1 ≤ (i 1 : ℕ) ∧ (i 1 : ℕ) < t.val / 16 * 1 + 1; omega
  | ⟨2, _⟩ =>
    show cc0_transform_2 (grid0.coords t) 2 * 8 ≤ (i 2 : ℕ) ∧ (i 2 : ℕ) < cc0_transform_2 (grid0.coords t) 2 * 8 + 8
    rw [e]; show 0 * 8 ≤ (i 2 : ℕ) ∧ (i 2 : ℕ) < 0 * 8 + 8; omega
  | ⟨3, _⟩ =>
    show cc0_transform_2 (grid0.coords t) 3 * 256 ≤ (i 3 : ℕ) ∧ (i 3 : ℕ) < cc0_transform_2 (grid0.coords t) 3 * 256 + 256
    rw [e]; show t.val % 16 * 256 ≤ (i 3 : ℕ) ∧ (i 3 : ℕ) < t.val % 16 * 256 + 256; omega

include hA in
theorem arr_eq : (dat0 V c).arrAt 2 cfg0.N = (G (V c main_arg0 : S4x3x4096.Idx → EReal) : S9x4x8x4096.Idx → EReal) :=
  (dat0 V c).arrAt_eq_of_cover 2 _ (fun t _ => flushed_eq V c hA t) cover

end Cert.Proof.KArr

end

end
-- ==== Proof.Net.lean ====
module

public import Idealize.ShloMosaic.PureOps.Ideal
public import Mathlib.Algebra.BigOperators.Fin

/-!
# The network that follows the features

Two rounds of a nine-by-nine linear map, a normalisation over all the points and a
rectifier, and a third linear map. The points form any finite type, so that the flat
numbering of one program and the triple numbering of the other are two instances of the
same definition, and renumbering the points changes nothing.
-/

@[expose] public section

open Idealize.ShloMosaic

namespace Cert.Proof.Net

variable {ι κ : Type} [Fintype ι] [Fintype κ]

/-- The linear map over the channels. -/
noncomputable def conv (w : Fin 9 → Fin 9 → EReal) (x : Fin 9 → ι → EReal) (o : Fin 9) (p : ι) :
    EReal := ∑ c, w o c * x c p

/-- The mean of a channel over the 131072 points. -/
noncomputable def mean (x : Fin 9 → ι → EReal) (o : Fin 9) : EReal :=
  Ideal.div (∑ p, x o p) (Ideal.ofBits .f32 0x48000000#32)

/-- The variance of a channel. -/
noncomputable def var (x : Fin 9 → ι → EReal) (o : Fin 9) : EReal :=
  mean (fun o p => (x o p - mean x o) * (x o p - mean x o)) o

/-- A channel brought to mean zero and variance one, then scaled, shifted and rectified. -/
noncomputable def bnr (x : Fin 9 → ι → EReal) (g b : Fin 9 → EReal) (o : Fin 9) (p : ι) : EReal :=
  max (Ideal.div (x o p - mean x o)
    (Ideal.sqrt (var x o + Ideal.ofBits .f32 0x3727C5AC#32)) * g o + b o) 0

/-- The first linear map with its normalisation, then the second linear map. -/
noncomputable def half (x : Fin 9 → ι → EReal) (w1 : Fin 9 → Fin 9 → EReal) (g1 b1 : Fin 9 → EReal)
    (w2 : Fin 9 → Fin 9 → EReal) : Fin 9 → ι → EReal :=
  conv w2 (bnr (conv w1 x) g1 b1)

/-- The second normalisation and the third linear map. -/
noncomputable def rest (y : Fin 9 → ι → EReal) (c2 g2 b2 : Fin 9 → EReal)
    (w3 : Fin 9 → Fin 9 → EReal) (c3 : Fin 9 → EReal) (o : Fin 9) (p : ι) : EReal :=
  conv w3 (bnr (fun o p => y o p + c2 o) g2 b2) o p + c3 o

/-- The whole network. -/
noncomputable def net (x : Fin 9 → ι → EReal) (w1 : Fin 9 → Fin 9 → EReal) (g1 b1 : Fin 9 → EReal)
    (w2 : Fin 9 → Fin 9 → EReal) (c2 g2 b2 : Fin 9 → EReal) (w3 : Fin 9 → Fin 9 → EReal)
    (c3 : Fin 9 → EReal) : Fin 9 → ι → EReal :=
  rest (half x w1 g1 b1 w2) c2 g2 b2 w3 c3

/-- Renumbering the points leaves a mean alone. -/
theorem mean_comp (e : κ ≃ ι) (x : Fin 9 → ι → EReal) :
    mean (fun o p => x o (e p)) = mean x := by
  funext o
  unfold mean
  rw [Equiv.sum_comp e (fun p => x o p)]

theorem var_comp (e : κ ≃ ι) (x : Fin 9 → ι → EReal) :
    var (fun o p => x o (e p)) = var x := by
  funext o
  unfold var
  rw [mean_comp e x]
  exact congrFun (mean_comp e fun o p => (x o p - mean x o) * (x o p - mean x o)) o

theorem bnr_comp (e : κ ≃ ι) (x : Fin 9 → ι → EReal) (g b : Fin 9 → EReal) :
    bnr (fun o p => x o (e p)) g b = fun o p => bnr x g b o (e p) := by
  funext o p
  unfold bnr
  rw [mean_comp e x, var_comp e x]

/-- Renumbering the points renumbers the network's outcome. -/
theorem net_comp (e : κ ≃ ι) (x : Fin 9 → ι → EReal) (w1 : Fin 9 → Fin 9 → EReal)
    (g1 b1 : Fin 9 → EReal) (w2 : Fin 9 → Fin 9 → EReal) (c2 g2 b2 : Fin 9 → EReal)
    (w3 : Fin 9 → Fin 9 → EReal) (c3 : Fin 9 → EReal) :
    net (fun o p => x o (e p)) w1 g1 b1 w2 c2 g2 b2 w3 c3
      = fun o p => net x w1 g1 b1 w2 c2 g2 b2 w3 c3 o (e p) := by
  have h1 : half (fun o p => x o (e p)) w1 g1 b1 w2 = fun o p => half x w1 g1 b1 w2 o (e p) := by
    unfold half
    rw [show conv w1 (fun o p => x o (e p)) = fun o p => conv w1 x o (e p) from rfl, bnr_comp e]
    rfl
  unfold net
  rw [h1]
  unfold rest
  have h2 := bnr_comp e (fun o p => half x w1 g1 b1 w2 o p + c2 o) g2 b2
  funext o p
  show conv w3 (bnr (fun o p => half x w1 g1 b1 w2 o (e p) + c2 o) g2 b2) o p + c3 o = _
  rw [h2]
  rfl

end Cert.Proof.Net
-- ==== Proof.KNet.lean ====
module

public import proofs.«01_k».proof.Proof.Gen.KernelIdeal.Frame
public import proofs.«01_k».proof.Proof.Net
public import Idealize.ShloMosaic.Lib.Pointwise

/-!
# The second call's block, read at a point
-/

@[expose] public section

open Idealize.ShloMosaic Idealize.ShloMosaic.TcCoe

namespace Cert.Proof.KNet

open Cert.KernelIdeal Cert.KernelIdeal.Gen

/-- A nine-by-nine array as a matrix. -/
abbrev mat (w : S9x9.Idx → EReal) (o c : Fin 9) : EReal := w (ix2 o c)

/-- A column as a vector. -/
abbrev col (w : S9x1.Idx → EReal) (o : Fin 9) : EReal := w (ix2 o (0 : Fin 1))

theorem pay3_apply (v0 : S9x131072.Idx → EReal) (v2 : S9x9.Idx → EReal) (v6 v8 : S9x1.Idx → EReal)
    (v36 : S9x9.Idx → EReal) (o : Fin 9) (p : Fin 131072) :
    k1_pay3 (F := Ideal) v0 v2 v6 v8 v36 (ix2 o p)
      = Net.half (fun c p => v0 (ix2 c p)) (mat v2) (col v6) (col v8) (mat v36) o p := by
  pointwise [k1_pay3]
  unfold Net.half Net.bnr Net.var Net.mean Net.conv
  rfl

theorem pay4_apply (v39 : S9x131072.Idx → EReal) (v40 v44 v46 : S9x1.Idx → EReal)
    (v74 : S9x9.Idx → EReal) (v78 : S9x1.Idx → EReal) (o : Fin 9) (p : Fin 131072) :
    k1_pay4 (F := Ideal) v39 v40 v44 v46 v74 v78 (ix2 o p)
      = Net.rest (fun c p => v39 (ix2 c p)) (col v40) (col v44) (col v46) (mat v74) (col v78) o p := by
  pointwise [k1_pay4]
  unfold Net.rest Net.bnr Net.var Net.mean Net.conv
  rfl

/-- The flat number of point `n` of group `g` of batch `b`. -/
abbrev flat (b : Fin 4) (g : Fin 8) (n : Fin 4096) : Fin 131072 :=
  ⟨b.val * 32768 + g.val * 4096 + n.val, by have := b.2; have := g.2; have := n.2; omega⟩

/-- The groups of one batch, added one after the other. -/
theorem pay65_apply (v39 : S9x131072.Idx → EReal) (v40 v44 v46 : S9x1.Idx → EReal)
    (v74 : S9x9.Idx → EReal) (v78 : S9x1.Idx → EReal) (y : S9x131072.Idx → EReal)
    (hy : k1_pay4 (F := Ideal) v39 v40 v44 v46 v74 v78 = y) (o : Fin 9) (n : Fin 4096) :
    k1_pay6 (F := Ideal) y (k1_pay5 v39 v40 v44 v46 v74 v78) (ix3 (0 : Fin 1) o n)
      = ∑ g, y (ix2 o (flat 0 g n)) := by
  unfold k1_pay5
  rw [hy]
  pointwise [k1_pay6]
  rw [Fin.sum_univ_eight]
  congr <;> omega

theorem pay7_apply (y : S9x131072.Idx → EReal) (o : Fin 9) (n : Fin 4096) :
    k1_pay7 (F := Ideal) y (ix3 (0 : Fin 1) o n) = ∑ g, y (ix2 o (flat 1 g n)) := by
  pointwise [k1_pay7]
  rw [Fin.sum_univ_eight]
  congr <;> omega

theorem pay8_apply (y : S9x131072.Idx → EReal) (o : Fin 9) (n : Fin 4096) :
    k1_pay1 (F := Ideal) (k1_pay8 y) (ix3 (0 : Fin 1) o n) = ∑ g, y (ix2 o (flat 2 g n)) := by
  pointwise [k1_pay1, k1_pay8]
  rw [Fin.sum_univ_eight]
  congr <;> omega

theorem pay2_apply (y : S9x131072.Idx → EReal) (o : Fin 9) (n : Fin 4096) :
    k1_pay2 (F := Ideal) y (ix3 (0 : Fin 1) o n) = ∑ g, y (ix2 o (flat 3 g n)) := by
  pointwise [k1_pay2]
  rw [Fin.sum_univ_eight]
  congr <;> omega

end Cert.Proof.KNet
-- ==== Proof.KNetArr.lean ====
/- What the second call leaves in its output array. -/
module

public import proofs.«01_k».proof.Proof.KNet
public import Idealize.ShloMosaic.Lib.Pipeline.Value

@[expose] public section

noncomputable section

open Idealize.ShloMosaic Idealize.ShloMosaic.TcCoe
open Cert.KernelIdeal Cert.KernelIdeal.Gen
open Cert.Proof.KNet

namespace Cert.Proof.KNetArr

/-- The network's outcome with the groups of a batch added together. -/
abbrev sums (x0 : S9x131072.Idx → EReal) (x1 : S9x9.Idx → EReal) (x2 x3 : S9x1.Idx → EReal)
    (x4 : S9x9.Idx → EReal) (x5 x6 x7 : S9x1.Idx → EReal) (x8 : S9x9.Idx → EReal) (x9 : S9x1.Idx → EReal) :
    S4x9x4096.Idx → EReal := fun y => ∑ g,
  Net.net (fun c p => x0 (ix2 c p)) (mat x1) (col x2) (col x3) (mat x4) (col x5) (col x6) (col x7) (mat x8) (col x9)
    (y 1) (flat (y 0) g (y 2))

theorem hz : (![0, 0] : Fin 2 → Nat) = fun _ => 0 := funext fun a => by fin_cases a <;> rfl

/-- One batch's slab, set in the output block. -/
theorem slab_eq (b : ℕ) (hb : b < 4) (inb : ∀ a, (![b, 0, 0] : Fin 3 → ℕ) a + (![1, 9, 4096] : Fin 3 → ℕ) a ≤ S4x9x4096.size a)
    (y : S9x131072.Idx → EReal) (w : S1x9x4096.Idx → EReal)
    (hw : ∀ o n, w (ix3 (0 : Fin 1) o n) = ∑ g, y (ix2 o (flat ⟨b, hb⟩ g n)))
    (x : (Rect.unit ![b, 0, 0] ![1, 9, 4096] inb : Rect S4x9x4096).shape.Idx) :
    w x = (fun i : S4x9x4096.Idx => ∑ g, y (ix2 (i 1) (flat (i 0) g (i 2))))
      ((Rect.unit ![b, 0, 0] ![1, 9, 4096] inb : Rect S4x9x4096).emb x) := by
  have h0 : (x 0 : ℕ) = 0 := by have := (x 0).2; exact Nat.lt_one_iff.mp this
  have e : x = ix3 (0 : Fin 1) (x 1) (x 2) := by
    funext a
    fin_cases a
    · exact Fin.ext h0
    · rfl
    · rfl
  refine (congrArg w e).trans ((hw (x 1) (x 2)).trans ?_)
  have e0 : (⟨b, hb⟩ : Fin 4) = ((Rect.unit ![b, 0, 0] ![1, 9, 4096] inb : Rect S4x9x4096).emb x) 0 := by
    apply Fin.ext; show b = b + 1 * (x 0 : ℕ); omega
  have e1 : (x 1 : Fin 9) = ((Rect.unit ![b, 0, 0] ![1, 9, 4096] inb : Rect S4x9x4096).emb x) 1 := by
    apply Fin.ext; show (x 1 : ℕ) = 0 + 1 * (x 1 : ℕ); omega
  have e2 : (x 2 : Fin 4096) = ((Rect.unit ![b, 0, 0] ![1, 9, 4096] inb : Rect S4x9x4096).emb x) 2 := by
    apply Fin.ext; show (x 2 : ℕ) = 0 + 1 * (x 2 : ℕ); omega
  refine Finset.sum_congr rfl fun g _ => ?_
  show y (ix2 (x 1) (flat ⟨b, hb⟩ g (x 2))) = y (ix2 _ (flat _ g _))
  rw [← e0, ← e1, ← e2]

/-- The whole output block. -/
theorem out_apply (x0 : S9x131072.Idx → EReal) (x1 : S9x9.Idx → EReal) (x2 x3 : S9x1.Idx → EReal)
    (x4 : S9x9.Idx → EReal) (x5 x6 x7 : S9x1.Idx → EReal) (x8 : S9x9.Idx → EReal) (x9 : S9x1.Idx → EReal) :
    out1_10 (F := Ideal) x0 x1 x2 x3 x4 x5 x6 x7 x8 x9 = sums x0 x1 x2 x3 x4 x5 x6 x7 x8 x9 := by
  funext i
  have hy : ∀ o p, k1_pay10 (F := Ideal) x0 x1 x2 x3 x4 x5 x6 x7 x8 x9 (ix2 o p)
      = Net.net (fun c p => x0 (ix2 c p)) (mat x1) (col x2) (col x3) (mat x4) (col x5) (col x6) (col x7) (mat x8) (col x9) o p := by
    intro o p
    unfold k1_pay10 k1_pay9
    rw [pay4_apply]
    rw [View.ld_unit_zero hz, View.ld_unit_zero hz, View.ld_unit_zero hz, View.ld_unit_zero hz, View.ld_unit_zero hz,
      View.ld_unit_zero hz, View.ld_unit_zero hz, View.ld_unit_zero hz, View.ld_unit_zero hz, View.ld_unit_zero hz]
    unfold Net.net
    exact congrArg (fun Y => Net.rest Y _ _ _ _ _ o p) (funext fun c => funext fun q => pay3_apply x0 x1 x2 x3 x4 c q)
  have hs : sums x0 x1 x2 x3 x4 x5 x6 x7 x8 x9
      = fun i : S4x9x4096.Idx => ∑ g, k1_pay10 (F := Ideal) x0 x1 x2 x3 x4 x5 x6 x7 x8 x9 (ix2 (i 1) (flat (i 0) g (i 2))) := by
    funext i
    exact Finset.sum_congr rfl fun g _ => (hy _ _).symm
  rw [hs]
  have hy10 : k1_pay4 (F := Ideal) (k1_pay9 x0 x1 x2 x3 x4 x5 x6 x7 x8 x9) (View.ld x5 r1_2) (View.ld x6 r1_2) (View.ld x7 r1_2) (View.ld x8 r1_1) (View.ld x9 r1_2)
      = k1_pay10 (F := Ideal) x0 x1 x2 x3 x4 x5 x6 x7 x8 x9 := rfl
  unfold out1_10
  generalize hY : k1_pay10 (F := Ideal) x0 x1 x2 x3 x4 x5 x6 x7 x8 x9 = Y at hy10 ⊢
  refine View.canon_apply_of_pieces (Val := Elt Ideal) (e := .f32) (fun i : S4x9x4096.Idx => ∑ g, Y (ix2 (i 1) (flat (i 0) g (i 2)))) _ ?_ i (cover1_10 _ _ _ _ i)
  intro p hp
  simp only [List.mem_cons, List.not_mem_nil, or_false] at hp
  rcases hp with rfl | rfl | rfl | rfl
  · intro x; exact slab_eq 3 (by omega) inb_S4x9x4096_S1x9x4096_3_0_0 Y _ (fun o n => pay2_apply Y o n) x
  · intro x; exact slab_eq 2 (by omega) inb_S4x9x4096_S1x9x4096_2_0_0 Y _ (fun o n => pay8_apply Y o n) x
  · intro x; exact slab_eq 1 (by omega) inb_S4x9x4096_S1x9x4096_1_0_0 Y _ (fun o n => pay7_apply Y o n) x
  · intro x; exact slab_eq 0 (by omega) inb_S4x9x4096_S1x9x4096_0_0_0 Y _ (fun o n => pay65_apply _ _ _ _ _ _ Y hy10 o n) x

variable (V : (c : Dev nD) → (b : Ref sig .tc) → Buf (Elt Ideal) ((c : Thread nD τ).loc b)) (c : Dev nD)

theorem blk0_eq (t : Fin cfg1.N) : (iblk1 V c 0 t : S9x131072.Idx → EReal) = (V c main_v1 : S9x131072.Idx → EReal) := by
  unfold iblk1
  funext y
  rw [View.read_apply]
  refine congrArg (V c main_v1 : S9x131072.Idx → EReal) ?_
  funext a; apply Fin.ext
  show 0 * _ + 1 * (y a).val = (y a).val
  omega

theorem blk1_eq (t : Fin cfg1.N) : (iblk1 V c 1 t : S9x9.Idx → EReal) = (V c main_arg1 : S9x9.Idx → EReal) := by
  unfold iblk1
  funext y
  rw [View.read_apply]
  refine congrArg (V c main_arg1 : S9x9.Idx → EReal) ?_
  funext a; apply Fin.ext
  show 0 * _ + 1 * (y a).val = (y a).val
  omega

theorem blk2_eq (t : Fin cfg1.N) : (iblk1 V c 2 t : S9x1.Idx → EReal) = (V c main_v2 : S9x1.Idx → EReal) := by
  unfold iblk1
  funext y
  rw [View.read_apply]
  refine congrArg (V c main_v2 : S9x1.Idx → EReal) ?_
  funext a; apply Fin.ext
  show 0 * _ + 1 * (y a).val = (y a).val
  omega

theorem blk3_eq (t : Fin cfg1.N) : (iblk1 V c 3 t : S9x1.Idx → EReal) = (V c main_v3 : S9x1.Idx → EReal) := by
  unfold iblk1
  funext y
  rw [View.read_apply]
  refine congrArg (V c main_v3 : S9x1.Idx → EReal) ?_
  funext a; apply Fin.ext
  show 0 * _ + 1 * (y a).val = (y a).val
  omega

theorem blk4_eq (t : Fin cfg1.N) : (iblk1 V c 4 t : S9x9.Idx → EReal) = (V c main_arg4 : S9x9.Idx → EReal) := by
  unfold iblk1
  funext y
  rw [View.read_apply]
  refine congrArg (V c main_arg4 : S9x9.Idx → EReal) ?_
  funext a; apply Fin.ext
  show 0 * _ + 1 * (y a).val = (y a).val
  omega

theorem blk5_eq (t : Fin cfg1.N) : (iblk1 V c 5 t : S9x1.Idx → EReal) = (V c main_v4 : S9x1.Idx → EReal) := by
  unfold iblk1
  funext y
  rw [View.read_apply]
  refine congrArg (V c main_v4 : S9x1.Idx → EReal) ?_
  funext a; apply Fin.ext
  show 0 * _ + 1 * (y a).val = (y a).val
  omega

theorem blk6_eq (t : Fin cfg1.N) : (iblk1 V c 6 t : S9x1.Idx → EReal) = (V c main_v5 : S9x1.Idx → EReal) := by
  unfold iblk1
  funext y
  rw [View.read_apply]
  refine congrArg (V c main_v5 : S9x1.Idx → EReal) ?_
  funext a; apply Fin.ext
  show 0 * _ + 1 * (y a).val = (y a).val
  omega

theorem blk7_eq (t : Fin cfg1.N) : (iblk1 V c 7 t : S9x1.Idx → EReal) = (V c main_v6 : S9x1.Idx → EReal) := by
  unfold iblk1
  funext y
  rw [View.read_apply]
  refine congrArg (V c main_v6 : S9x1.Idx → EReal) ?_
  funext a; apply Fin.ext
  show 0 * _ + 1 * (y a).val = (y a).val
  omega

theorem blk8_eq (t : Fin cfg1.N) : (iblk1 V c 8 t : S9x9.Idx → EReal) = (V c main_arg8 : S9x9.Idx → EReal) := by
  unfold iblk1
  funext y
  rw [View.read_apply]
  refine congrArg (V c main_arg8 : S9x9.Idx → EReal) ?_
  funext a; apply Fin.ext
  show 0 * _ + 1 * (y a).val = (y a).val
  omega

theorem blk9_eq (t : Fin cfg1.N) : (iblk1 V c 9 t : S9x1.Idx → EReal) = (V c main_v7 : S9x1.Idx → EReal) := by
  unfold iblk1
  funext y
  rw [View.read_apply]
  refine congrArg (V c main_v7 : S9x1.Idx → EReal) ?_
  funext a; apply Fin.ext
  show 0 * _ + 1 * (y a).val = (y a).val
  omega

/-- What the whole array is shown to hold. -/
abbrev res : S4x9x4096.Idx → EReal := sums (V c main_v1 : S9x131072.Idx → EReal) (V c main_arg1 : S9x9.Idx → EReal) (V c main_v2 : S9x1.Idx → EReal) (V c main_v3 : S9x1.Idx → EReal) (V c main_arg4 : S9x9.Idx → EReal) (V c main_v4 : S9x1.Idx → EReal) (V c main_v5 : S9x1.Idx → EReal) (V c main_v6 : S9x1.Idx → EReal) (V c main_arg8 : S9x9.Idx → EReal) (V c main_v7 : S9x1.Idx → EReal)

theorem flushed_eq (t : Fin cfg1.N) :
    (dat1 V c).flushed 10 t = ((cfg1.win 10).blk t).view.read (Elt Ideal) (res V c) := by
  show (cfg1.win 10).cut (grid1.coords t) ((dat1 V c).after 10 t) = _
  rw [after1_10]
  funext y
  rw [View.read_apply]
  have he : (((cfg1.win 10).blk t).view.emb y : S4x9x4096.Idx) = y := by
    funext a; apply Fin.ext
    show 0 * _ + 1 * (y a).val = (y a).val
    omega
  rw [he]
  refine (congrFun (out_apply (iblk1 V c 0 t) (iblk1 V c 1 t) (iblk1 V c 2 t) (iblk1 V c 3 t) (iblk1 V c 4 t)
    (iblk1 V c 5 t) (iblk1 V c 6 t) (iblk1 V c 7 t) (iblk1 V c 8 t) (iblk1 V c 9 t)) y).trans ?_
  rw [blk0_eq, blk1_eq, blk2_eq, blk3_eq, blk4_eq, blk5_eq, blk6_eq, blk7_eq, blk8_eq, blk9_eq]
  rfl

theorem cover (i : S4x9x4096.Idx) :
    ∃ t : Fin cfg1.N, (cfg1.win 10).flush t = true ∧ i ∈ ((cfg1.win 10).blk t).view.set := by
  refine ⟨t1_0, flush1_10 _, ?_⟩
  show i ∈ ((View.whole main_v8).slice (win1_10.rect t1_0)).set
  rw [View.set_slice_whole, Rect.mem_set_unit]
  intro a
  have h : (i a : ℕ) < S4x9x4096.size a := (i a).isLt
  show 0 * _ ≤ (i a : ℕ) ∧ (i a : ℕ) < 0 * _ + S4x9x4096.size a
  omega

theorem arr_eq : (dat1 V c).arrAt 10 cfg1.N = (res V c : S4x9x4096.Idx → EReal) :=
  (dat1 V c).arrAt_eq_of_cover 10 _ (fun t _ => flushed_eq V c t) cover

end Cert.Proof.KNetArr

end

end
-- ==== Proof.KVal.lean ====
/- What the kernel's result array holds, as mathematics. -/
module

public import proofs.«01_k».proof.Proof.KArr
public import proofs.«01_k».proof.Proof.KNetArr
public import proofs.«01_k».proof.Proof.KRun

@[expose] public section

noncomputable section

open Idealize.ShloMosaic Idealize.ShloMosaic.TcCoe
open Cert.KernelIdeal Cert.KernelIdeal.Gen
open Cert.Proof.KNet

namespace Cert.Proof.KVal

/-- The points of the network, as batch, group and query. -/
abbrev Pt := Fin 4 × Fin 8 × Fin 4096

/-- The flat numbering of the points. -/
def num : Pt ≃ Fin 131072 where
  toFun q := flat q.1 q.2.1 q.2.2
  invFun p := (⟨p.val / 32768, by have := p.2; omega⟩, ⟨p.val / 4096 % 8, by omega⟩, ⟨p.val % 4096, by omega⟩)
  left_inv q := by
    obtain ⟨b, g, n⟩ := q
    have := b.2; have := g.2; have := n.2
    refine Prod.ext (Fin.ext ?_) (Prod.ext (Fin.ext ?_) (Fin.ext ?_))
    · show (b.val * 32768 + g.val * 4096 + n.val) / 32768 = b.val; omega
    · show (b.val * 32768 + g.val * 4096 + n.val) / 4096 % 8 = g.val; omega
    · show (b.val * 32768 + g.val * 4096 + n.val) % 4096 = n.val; omega
  right_inv p := by
    apply Fin.ext
    show p.val / 32768 * 32768 + p.val / 4096 % 8 * 4096 + p.val % 4096 = p.val
    omega

theorem flat_cast (v : S9x4x8x4096.Idx → EReal) (k : Fin 9) (b : Fin 4) (g : Fin 8) (n : Fin 4096) :
    shapeCast S9x131072 v shapeCasts_S9x4x8x4096_S9x131072 (ix2 k (flat b g n)) = v (ix4 k b g n) := by
  pointwise []
  have := b.2; have := g.2; have := n.2
  congr 2 <;> apply Fin.ext
  · show (b.val * 32768 + g.val * 4096 + n.val) / 32768 = b.val; omega
  · show (b.val * 32768 + g.val * 4096 + n.val) / 4096 % 8 = g.val; omega
  · show (b.val * 32768 + g.val * 4096 + n.val) % 4096 = n.val; omega

theorem col_cast (v : S9.Idx → EReal) (o : Fin 9) :
    col (shapeCast S9x1 v shapeCasts_S9_S9x1) o = v (ix1 o) := by
  pointwise []

/-- The whole problem: the features of every point, the network, the groups added together. -/
abbrev result (A : S4x3x4096.Idx → EReal) (w1 : S9x9.Idx → EReal) (g1 b1 : S9.Idx → EReal) (w2 : S9x9.Idx → EReal)
    (c2 g2 b2 : S9.Idx → EReal) (w3 : S9x9.Idx → EReal) (c3 : S9.Idx → EReal) : S4x9x4096.Idx → EReal := fun y => ∑ g,
  Net.net (fun k (q : Pt) => KArr.feats A k q.1 q.2.1 q.2.2) (mat w1) (fun o => g1 (ix1 o)) (fun o => b1 (ix1 o)) (mat w2)
    (fun o => c2 (ix1 o)) (fun o => g2 (ix1 o)) (fun o => b2 (ix1 o)) (mat w3) (fun o => c3 (ix1 o)) (y 1) (y 0, g, y 2)

variable (m : (ℓ : Loc nD τ sig) → Buf (Elt Ideal) ℓ) (ρ : Dev nD → PrngReg) (c : Dev nD)

theorem W2_v1 : (W2 m ρ c (Proc.devRef .tc main_v1) : S9x131072.Idx → EReal)
    = shapeCast S9x131072 (W1 m ρ c (Proc.devRef .tc main_v0) : S9x4x8x4096.Idx → EReal) shapeCasts_S9x4x8x4096_S9x131072 := by
  show StableHlo.after hostOps1 (W1 m ρ c) (Proc.devRef .tc main_v1) = _
  unfold hostOps1
  rw [StableHlo.after_cons, StableHlo.after_of_forall_not_mem _ _ (by simp [StableHlo.reshape_writes])]
  exact StableHlo.reshape_result ..

theorem W2_v2 : (W2 m ρ c (Proc.devRef .tc main_v2) : S9x1.Idx → EReal)
    = shapeCast S9x1 (m ((c : Thread nD τ).loc main_arg2) : S9.Idx → EReal) shapeCasts_S9_S9x1 := by
  rw [← W1_args m ρ c main_arg2 (by decide)]
  show StableHlo.after hostOps1 (W1 m ρ c) (Proc.devRef .tc main_v2) = _
  unfold hostOps1
  rw [StableHlo.after_cons, StableHlo.after_cons, StableHlo.after_of_forall_not_mem _ _ (by simp [StableHlo.reshape_writes])]
  refine (StableHlo.reshape_result ..).trans ?_
  rw [StableHlo.reshape_result_ne _ _ _ _ _ _ _ (by decide)]
  rfl

theorem W2_v3 : (W2 m ρ c (Proc.devRef .tc main_v3) : S9x1.Idx → EReal)
    = shapeCast S9x1 (m ((c : Thread nD τ).loc main_arg3) : S9.Idx → EReal) shapeCasts_S9_S9x1 := by
  rw [← W1_args m ρ c main_arg3 (by decide)]
  show StableHlo.after hostOps1 (W1 m ρ c) (Proc.devRef .tc main_v3) = _
  unfold hostOps1
  rw [StableHlo.after_cons, StableHlo.after_cons, StableHlo.after_cons, StableHlo.after_of_forall_not_mem _ _ (by simp [StableHlo.reshape_writes])]
  refine (StableHlo.reshape_result ..).trans ?_
  rw [StableHlo.reshape_result_ne _ _ _ _ _ _ _ (by decide), StableHlo.reshape_result_ne _ _ _ _ _ _ _ (by decide)]
  rfl

theorem W2_v4 : (W2 m ρ c (Proc.devRef .tc main_v4) : S9x1.Idx → EReal)
    = shapeCast S9x1 (m ((c : Thread nD τ).loc main_arg5) : S9.Idx → EReal) shapeCasts_S9_S9x1 := by
  rw [← W1_args m ρ c main_arg5 (by decide)]
  show StableHlo.after hostOps1 (W1 m ρ c) (Proc.devRef .tc main_v4) = _
  unfold hostOps1
  rw [StableHlo.after_cons, StableHlo.after_cons, StableHlo.after_cons, StableHlo.after_cons, StableHlo.after_of_forall_not_mem _ _ (by simp [StableHlo.reshape_writes])]
  refine (StableHlo.reshape_result ..).trans ?_
  rw [StableHlo.reshape_result_ne _ _ _ _ _ _ _ (by decide), StableHlo.reshape_result_ne _ _ _ _ _ _ _ (by decide), StableHlo.reshape_result_ne _ _ _ _ _ _ _ (by decide)]
  rfl

theorem W2_v5 : (W2 m ρ c (Proc.devRef .tc main_v5) : S9x1.Idx → EReal)
    = shapeCast S9x1 (m ((c : Thread nD τ).loc main_arg6) : S9.Idx → EReal) shapeCasts_S9_S9x1 := by
  rw [← W1_args m ρ c main_arg6 (by decide)]
  show StableHlo.after hostOps1 (W1 m ρ c) (Proc.devRef .tc main_v5) = _
  unfold hostOps1
  rw [StableHlo.after_cons, StableHlo.after_cons, StableHlo.after_cons, StableHlo.after_cons, StableHlo.after_cons, StableHlo.after_of_forall_not_mem _ _ (by simp [StableHlo.reshape_writes])]
  refine (StableHlo.reshape_result ..).trans ?_
  rw [StableHlo.reshape_result_ne _ _ _ _ _ _ _ (by decide), StableHlo.reshape_result_ne _ _ _ _ _ _ _ (by decide), StableHlo.reshape_result_ne _ _ _ _ _ _ _ (by decide), StableHlo.reshape_result_ne _ _ _ _ _ _ _ (by decide)]
  rfl

theorem W2_v6 : (W2 m ρ c (Proc.devRef .tc main_v6) : S9x1.Idx → EReal)
    = shapeCast S9x1 (m ((c : Thread nD τ).loc main_arg7) : S9.Idx → EReal) shapeCasts_S9_S9x1 := by
  rw [← W1_args m ρ c main_arg7 (by decide)]
  show StableHlo.after hostOps1 (W1 m ρ c) (Proc.devRef .tc main_v6) = _
  unfold hostOps1
  rw [StableHlo.after_cons, StableHlo.after_cons, StableHlo.after_cons, StableHlo.after_cons, StableHlo.after_cons, StableHlo.after_cons, StableHlo.after_of_forall_not_mem _ _ (by simp [StableHlo.reshape_writes])]
  refine (StableHlo.reshape_result ..).trans ?_
  rw [StableHlo.reshape_result_ne _ _ _ _ _ _ _ (by decide), StableHlo.reshape_result_ne _ _ _ _ _ _ _ (by decide), StableHlo.reshape_result_ne _ _ _ _ _ _ _ (by decide), StableHlo.reshape_result_ne _ _ _ _ _ _ _ (by decide), StableHlo.reshape_result_ne _ _ _ _ _ _ _ (by decide)]
  rfl

theorem W2_v7 : (W2 m ρ c (Proc.devRef .tc main_v7) : S9x1.Idx → EReal)
    = shapeCast S9x1 (m ((c : Thread nD τ).loc main_arg9) : S9.Idx → EReal) shapeCasts_S9_S9x1 := by
  rw [← W1_args m ρ c main_arg9 (by decide)]
  show StableHlo.after hostOps1 (W1 m ρ c) (Proc.devRef .tc main_v7) = _
  unfold hostOps1
  rw [StableHlo.after_cons, StableHlo.after_cons, StableHlo.after_cons, StableHlo.after_cons, StableHlo.after_cons, StableHlo.after_cons, StableHlo.after_cons, StableHlo.after_of_forall_not_mem _ _ (by simp [StableHlo.reshape_writes])]
  refine (StableHlo.reshape_result ..).trans ?_
  rw [StableHlo.reshape_result_ne _ _ _ _ _ _ _ (by decide), StableHlo.reshape_result_ne _ _ _ _ _ _ _ (by decide), StableHlo.reshape_result_ne _ _ _ _ _ _ _ (by decide), StableHlo.reshape_result_ne _ _ _ _ _ _ _ (by decide), StableHlo.reshape_result_ne _ _ _ _ _ _ _ (by decide), StableHlo.reshape_result_ne _ _ _ _ _ _ _ (by decide)]
  rfl

variable (hA : ∀ b k j, ∃ r : ℝ, (m ((c : Thread nD τ).loc main_arg0) : S4x3x4096.Idx → EReal) (ix3 b k j) = (r : EReal))

include hA in
/-- The kernel's result array. -/
theorem W3_v8 : (W3 m ρ c (Proc.devRef .tc main_v8) : S4x9x4096.Idx → EReal)
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) := by
  refine ((W3_arr m ρ c 10).trans (KNetArr.arr_eq (V2 m ρ) c)).trans ?_
  have h0 : (W1 m ρ c (Proc.devRef .tc main_v0) : S9x4x8x4096.Idx → EReal) = KArr.G (m ((c : Thread nD τ).loc main_arg0)) :=
    (W1_arr m ρ c 2).trans (KArr.arr_eq (V0 m ρ) c hA)
  have h1 : (fun k (q : Pt) => (W2 m ρ c (Proc.devRef .tc main_v1) : S9x131072.Idx → EReal) (ix2 k (num q)))
      = fun k (q : Pt) => KArr.feats (m ((c : Thread nD τ).loc main_arg0)) k q.1 q.2.1 q.2.2 := by
    funext k q
    rw [W2_v1, h0]
    exact flat_cast _ k q.1 q.2.1 q.2.2
  have hc := fun w1 g1 b1 w2 c2 g2 b2 w3 c3 => Net.net_comp num
    (fun k p => (W2 m ρ c (Proc.devRef .tc main_v1) : S9x131072.Idx → EReal) (ix2 k p)) w1 g1 b1 w2 c2 g2 b2 w3 c3
  rw [h1] at hc
  funext y
  refine Finset.sum_congr rfl fun g _ => ?_
  refine Eq.trans ?_ (congrFun (congrFun (hc _ _ _ _ _ _ _ _ _) (y 1)) (y 0, g, y 2)).symm
  show Net.net (fun k p => (W2 m ρ c (Proc.devRef .tc main_v1) : S9x131072.Idx → EReal) (ix2 k p))
      (mat (W2 m ρ c (Proc.devRef .tc main_arg1))) (col (W2 m ρ c (Proc.devRef .tc main_v2))) (col (W2 m ρ c (Proc.devRef .tc main_v3)))
      (mat (W2 m ρ c (Proc.devRef .tc main_arg4))) (col (W2 m ρ c (Proc.devRef .tc main_v4))) (col (W2 m ρ c (Proc.devRef .tc main_v5)))
      (col (W2 m ρ c (Proc.devRef .tc main_v6))) (mat (W2 m ρ c (Proc.devRef .tc main_arg8))) (col (W2 m ρ c (Proc.devRef .tc main_v7)))
      (y 1) (flat (y 0) g (y 2)) = _
  rw [W2_args m ρ c main_arg1 (by decide), W2_args m ρ c main_arg4 (by decide), W2_args m ρ c main_arg8 (by decide)]
  have hcol : ∀ (a : S9.Idx → EReal) (w : S9x1.Idx → EReal), w = shapeCast S9x1 a shapeCasts_S9_S9x1 →
      col w = fun o => a (ix1 o) := fun a w h => by rw [h]; exact funext fun o => col_cast a o
  rw [hcol _ _ (W2_v2 m ρ c), hcol _ _ (W2_v3 m ρ c), hcol _ _ (W2_v4 m ρ c),
    hcol _ _ (W2_v5 m ρ c), hcol _ _ (W2_v6 m ρ c), hcol _ _ (W2_v7 m ρ c)]
  rfl

end Cert.Proof.KVal

end

end
-- ==== Proof.RKnn.lean ====
/- The reference's neighbour search and its sort by direction, read at an index. -/
module

public import proofs.«01_k».proof.Proof.Gen.ReferenceIdeal.Read
public import proofs.«01_k».proof.Proof.Spec
public import Idealize.ShloMosaic.Lib.Pointwise
public import Idealize.ShloMosaic.Lib.SortFacts

@[expose] public section

noncomputable section

open Idealize.ShloMosaic Idealize.ShloMosaic.TcCoe
open Cert.ReferenceIdeal Cert.ReferenceIdeal.Gen Cert.ReferenceIdeal.Read
open Cert.Proof.Order Cert.Proof.Angle

namespace Cert.Proof.RKnn

variable (A : S4x3x4096.Idx → EReal)

/-- The query `n` of batch `b`, and the points of the batch. -/
abbrev qry (b : Fin 4) (n : Fin 4096) (c : Fin 3) : EReal := A (ix3 b c n)
abbrev pts (b : Fin 4) (c : Fin 3) (j : Fin 4096) : EReal := A (ix3 b c j)

theorem ofBits_two : Ideal.ofBits .f32 0x40000000#32 = 2 := by
  simp [Ideal.ofBits, Ideal.ieee, -EReal.coe_mul]; norm_num; rfl

theorem v12_apply (b : Fin 4) (n j : Fin 4096) :
    val_main_v12 (F := Ideal) A (ix3 b n j) = -(Spec.dist (qry A b n) (pts A b) j) := by
  pointwise [val_main_v12, val_main_v11, val_main_v10, val_main_v9, val_main_cst_0, val_main_v8, val_main_v7, val_main_v6, val_main_v5,
    val_main_v4, val_main_v3, val_main_v2, val_main_cst, val_main_v1, val_main_v0]
  simp only [ofBits_two]
  rfl

/-- A stable sort along the last of three axes moves each row by its own order. -/
theorem sort2_last {a b m : ℕ} {α β : Type} (cmp : α × β → α × β → BitVec 1) (x : (⟨3, ![a, b, m]⟩ : Shape).Idx → α)
    (y : (⟨3, ![a, b, m]⟩ : Shape).Idx → β) (i : Fin a) (j : Fin b) (k : Fin m) :
    (Host.sort2 ⟨3, ![a, b, m]⟩ 2 cmp x y).2 (ix3 i j k)
      = y (ix3 i j (sortedFrom (fun p q : Fin m => cmp (x (ix3 i j p), y (ix3 i j p)) (x (ix3 i j q), y (ix3 i j q)) == 1#1) k)) := by
  have ea : ∀ p : Fin m, Shape.Idx.along (s := ⟨3, ![a, b, m]⟩) (ix3 i j k) (2 : Fin 3) p = ix3 i j p := by
    intro p; funext c; fin_cases c <;> rfl
  unfold Host.sort2
  rw [dif_pos (show 2 < 3 by decide)]
  dsimp only
  refine (congrArg y (ea _)).trans ?_
  refine congrArg (fun B => y (ix3 i j (sortedFrom B k))) ?_
  funext p q
  exact congrArg₂ (fun u v => cmp (x u, y u) (x v, y v) == 1#1) (ea p) (ea q)

/-- The printed search keeps, in order, the nearest positions. -/
theorem topk_apply (x : FVec Ideal S4x4096x4096 .f32) (d : Fin 4096 → EReal) (hd : ∀ j, ∃ r : ℝ, d j = (r : EReal)) (b : Fin 4) (n : Fin 4096)
    (hx : ∀ j, x (ix3 b n j) = -(d j)) (i : Fin 9) :
    (Host.topK S4x4096x9 2 (FloatOps.cmpfTotal .gt) x sliceFits_S4x4096x4096_S4x4096x9).2 (ix3 b n i) = BitVec.ofNat 32 (sel d i).val := by
  have e : sortedFrom (fun k k' : Fin 4096 => FloatOps.cmpfTotal (F := Ideal) (φ := .f32) .gt (x (ix3 b n k)) (x (ix3 b n k')) == 1#1)
      = sortedFrom (lexB d) := by
    refine sortedFrom_eq_lexB d _ fun a b' => ?_
    rw [hx, hx]
    obtain ⟨r, hr⟩ := hd a
    obtain ⟨r', hr'⟩ := hd b'
    rw [hr, hr']
    show ((BitVec.ofBool (decide (-(r' : EReal) < -(r : EReal)))) == 1#1) = decide ((r : EReal) < (r' : EReal))
    by_cases h : r < r' <;> simp [EReal.neg_lt_neg_iff, h]
  have hs : sortedFrom (lexB d) (Fin.castLE (by decide : 9 ≤ 4096) i) = sel d i :=
    sortedFrom_eq_sel d (fun j => by obtain ⟨r, hr⟩ := hd j; rw [hr]; exact EReal.coe_lt_top r) 9 (by decide) i
  rw [← hs, ← e]
  have ei : ∀ (w : IVec S4x4096x4096 32) h, extractStridedSlice S4x4096x9 (fun _ => 0) w h (ix3 b n i) = w (ix3 b n (⟨i.val, by have := i.2; omega⟩ : Fin 4096)) := by
    intro w h
    unfold extractStridedSlice
    refine congrArg w ?_
    funext a; apply Fin.ext
    match a with
    | ⟨0, _⟩ => exact Nat.zero_add _
    | ⟨1, _⟩ => exact Nat.zero_add _
    | ⟨2, _⟩ => exact Nat.zero_add _
  unfold Host.topK
  dsimp only
  rw [ei]
  refine (sort2_last _ x _ b n (⟨i.val, by have := i.2; omega⟩ : Fin 4096)).trans ?_
  rfl

variable (hA : ∀ b c j, ∃ r : ℝ, A (ix3 b c j) = (r : EReal))

include hA in
theorem indices_apply (b : Fin 4) (n : Fin 4096) (i : Fin 9) :
    val_main_indices (F := Ideal) A (ix3 b n i) = BitVec.ofNat 32 (sel (Spec.dist (qry A b n) (pts A b)) i).val :=
  topk_apply _ _ (fun j => Spec.dist_finite _ _ (fun c => hA b c n) (fun c j => hA b c j) j) b n (v12_apply A b n) i

theorem toInt_small {m : ℕ} (p : Fin m) (h : m ≤ 4096) : (BitVec.ofNat 32 p.val).toInt = p.val := by
  have := p.2
  rw [BitVec.toInt_eq_toNat_of_lt (by rw [BitVec.toNat_ofNat]; omega), BitVec.toNat_ofNat]
  congr 1; omega

/-- An index in range is not moved by the wrap of negative ones. -/
theorem wrap_small {m : ℕ} (p : Fin m) (h : m ≤ 4096) (w : BitVec 32) :
    Scalar.select (IntOp.cmpi .slt (BitVec.ofNat 32 p.val) 0#32) w (BitVec.ofNat 32 p.val) = BitVec.ofNat 32 p.val := by
  have e : IntOp.cmpi .slt (BitVec.ofNat 32 p.val) 0#32 = 0#1 := by
    show BitVec.ofBool (decide ((BitVec.ofNat 32 p.val).toInt < (0#32).toInt)) = 0#1
    rw [toInt_small p h]
    simp only [BitVec.toInt_zero, decide_eq_false (show ¬ ((p.val : ℤ) < 0) by omega), BitVec.ofBool_false]
    rfl
  rw [e]; rfl

include hA in
theorem v18_apply (b : Fin 4) (n : Fin 4096) (i : Fin 9) :
    val_main_v18 (F := Ideal) A (ix4 b n i 0) = BitVec.ofNat 32 (sel (Spec.dist (qry A b n) (pts A b)) i).val := by
  refine Eq.trans ?_ (wrap_small (sel (Spec.dist (qry A b n) (pts A b)) i) le_rfl (IntOp.addi (BitVec.ofNat 32 (sel (Spec.dist (qry A b n) (pts A b)) i).val) 4096#32))
  pointwise [val_main_v18, val_main_v17, val_main_v16, val_main_v15, val_main_v14, val_main_v13, val_main_c, val_main_c_1]
  rw [indices_apply A hA]

theorem gather_knn (x : FVec Ideal S4x4096x3 .f32) (idx : IVec S4x4096x9x1 32) (b : Fin 4) (n : Fin 4096) (i : Fin 9) (c : Fin 3) (p : Fin 4096)
    (h : idx (ix4 b n i 0) = BitVec.ofNat 32 p.val) :
    Host.gather gather_S4x4096x3_S4x4096x9x1_S4x4096x9x3_3_1_0_0_1_3_113 x idx (ix4 b n i c) = x (ix3 b p c) := by
  unfold Host.gather
  refine congrArg x ?_
  set d := gather_S4x4096x3_S4x4096x9x1_S4x4096x9x3_3_1_0_0_1_3_113 with hd
  funext a; apply Fin.ext
  show d.start (ix4 b n i c) idx a + d.batchCoord (ix4 b n i c) a + d.offCoord (ix4 b n i c) a = _
  have h3 : ∀ a : Fin 3, a = 0 ∨ a = 1 ∨ a = 2 := by decide
  rcases h3 a with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ d.operandBatchingDims from List.mem_singleton.mpr rfl)]
    rfl
  · rw [GatherDims.batchCoord_eq_zero _ _ _ (show (1 : Fin 3) ∉ ([0] : List (Fin 3)) by decide),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ d.startIndexMap from List.mem_singleton.mpr rfl)]
    have hsi : d.siIdx (ix4 b n i c) ⟨List.idxOf (1 : Fin 3) d.startIndexMap, List.idxOf_lt_length_iff.2 (List.mem_singleton.mpr rfl)⟩ = ix4 b n i 0 := by
      funext e; apply Fin.ext
      match e with
      | ⟨0, _⟩ => rfl
      | ⟨1, _⟩ => rfl
      | ⟨2, _⟩ => rfl
      | ⟨3, _⟩ => rfl
    refine (congrArg (fun w => min (BitVec.toInt w).toNat _) ((congrArg idx hsi).trans h)).trans ?_
    dsimp only
    rw [toInt_small p le_rfl]
    have := p.2
    show min p.val (4096 - 1) = p.val
    omega
  · rw [GatherDims.batchCoord_eq_zero _ _ _ (show (2 : Fin 3) ∉ ([0] : List (Fin 3)) by decide)]
    unfold GatherDims.start GatherDims.offCoord
    rw [dif_neg (show (2 : Fin 3) ∉ d.startIndexMap from (by decide : (2 : Fin 3) ∉ ([1] : List (Fin 3)))),
      dif_pos ((GatherDims.mem_sKept d 2).mpr ⟨show (2 : Fin 3) ∉ ([1] : List (Fin 3)) by decide, show (2 : Fin 3) ∉ ([0] : List (Fin 3)) by decide⟩)]
    simp only [Nat.zero_add]
    rfl

/-- The neighbours of each query, relative to it. -/
abbrev nbr (b : Fin 4) (n : Fin 4096) : Fin 3 → Fin 8 → EReal := Spec.rel (qry A b n) (pts A b)

include hA in
theorem v23_apply (b : Fin 4) (n : Fin 4096) (i : Fin 8) (c : Fin 3) : val_main_v23 (F := Ideal) A (ix4 b n i c) = nbr A b n c i := by
  have hg : ∀ i' : Fin 9, val_main_v19 (F := Ideal) A (ix4 b n i' c) = pts A b c (sel (Spec.dist (qry A b n) (pts A b)) i') := by
    intro i'
    refine (gather_knn _ _ b n i' c _ (v18_apply A hA b n i')).trans ?_
    pointwise [val_main_v0]
  pointwise [val_main_v23, val_main_v22, val_main_v21, val_main_v20, val_main_v0]
  rw [hg]
  show pts A b c (sel _ (1 + i.val)) - _ = pts A b c (sel _ (i.val + 1)) - _
  rw [Nat.add_comm]

end Cert.Proof.RKnn

end

end
-- ==== Proof.RFeat.lean ====
/- The reference's features: the order of the neighbours around the query. -/
module

public import proofs.«01_k».proof.Proof.RKnn

@[expose] public section

noncomputable section

open Idealize.ShloMosaic Idealize.ShloMosaic.TcCoe
open Cert.ReferenceIdeal Cert.ReferenceIdeal.Read
open Cert.Proof.Order Cert.Proof.RKnn

namespace Cert.Proof.RFeat

theorem ofBits_neg_one : Ideal.ofBits .f32 0xBF800000#32 = -1 := by
  simp [Ideal.ofBits, Ideal.ieee, -EReal.coe_mul]; norm_num
theorem ofBits_one : Ideal.ofBits .f32 0x3F800000#32 = 1 := by
  simp [Ideal.ofBits, Ideal.ieee, -EReal.coe_mul]; norm_num
theorem ofBits_half : Ideal.ofBits .f32 0x3F000000#32 = ((1 / 2 : ℝ) : EReal) := by
  simp [Ideal.ofBits, Ideal.ieee, -EReal.coe_mul]; norm_num
theorem ofBits_three : Ideal.ofBits .f32 0x40400000#32 = ((3 : ℝ) : EReal) := by
  simp [Ideal.ofBits, Ideal.ieee, -EReal.coe_mul]; norm_num

theorem acos_neg_one : Ideal.acos (-1) = ((Real.pi : ℝ) : EReal) := by
  show (if -1 ≤ (-1 : ℝ) ∧ (-1 : ℝ) ≤ 1 then ((Real.arccos (-1) : ℝ) : EReal) else ⊥) = _
  rw [if_pos ⟨le_rfl, by norm_num⟩, Real.arccos_neg_one]

theorem two_pi : (2 : EReal) * ((Real.pi : ℝ) : EReal) = ((2 * Real.pi : ℝ) : EReal) := by
  rw [EReal.coe_mul]; rfl

variable (A : S4x3x4096.Idx → EReal) (hA : ∀ b c j, ∃ r : ℝ, A (ix3 b c j) = (r : EReal))

include hA in
theorem v51_apply (b : Fin 4) (n : Fin 4096) (i : Fin 8) :
    val_main_v51 (F := Ideal) A (ix3 b n i) = Angle.phi (nbr A b n 0 i) (nbr A b n 1 i) := by
  pointwise [val_main_v51, val_main_v50, val_main_v49, val_main_v48, val_main_v47, val_main_cst_11, val_main_v46, val_main_v45,
    val_main_v44, val_main_cst_10, val_main_v41, val_main_cst_9, val_main_v40, val_main_v39, val_main_v38]
  rw [v23_apply A hA, v23_apply A hA, ofBits_neg_one, ofBits_two, ofBits_half]
  show Ideal.div _ (2 * Ideal.acos (-1)) + _ = _
  rw [acos_neg_one, two_pi]
  rfl

/-- Over the extended reals there is nothing to tell apart at zero and no number that differs from itself. -/
theorem canon_eq (x w : EReal) :
    Scalar.select (FloatOps.cmpf (F := Ideal) (φ := .f32) .une x x) w
      (Scalar.select (FloatOps.cmpf (F := Ideal) (φ := .f32) .oeq x (Ideal.ofBits .f32 0x00000000#32)) (Ideal.ofBits .f32 0x00000000#32) x) = x := by
  have h0 : Ideal.ofBits .f32 0x00000000#32 = 0 := by simp [Ideal.ofBits, Ideal.ieee]
  rw [h0]
  have h1 : FloatOps.cmpf (F := Ideal) (φ := .f32) .une x x = 0#1 := by
    show BitVec.ofBool (decide (x ≠ x)) = 0#1
    simp
  rw [h1]
  show Scalar.select (BitVec.ofBool (decide (x = 0))) 0 x = x
  by_cases h : x = 0
  · subst h; simp [Scalar.select]
  · simp [Scalar.select, h]

theorem comparator_eq (l r : EReal × BitVec 32) :
    (comparator_f32_i32_d2 (F := Ideal) l r == 1#1) = decide (l.1 < r.1) := by
  have e : comparator_f32_i32_d2 (F := Ideal) l r = BitVec.ofBool (decide (l.1 < r.1)) := by
    show Ideal.cmp .olt (Scalar.select _ _ (Scalar.select _ _ l.1)) (Scalar.select _ _ (Scalar.select _ _ r.1)) = _
    exact congrArg₂ (fun u v : EReal => BitVec.ofBool (decide (u < v))) (canon_eq l.1 _) (canon_eq r.1 _)
  rw [e]
  by_cases h : l.1 < r.1 <;> simp [h]

include hA in
/-- The order the reference sorts by is the order of the rational key. -/
theorem order_eq (b : Fin 4) (n : Fin 4096) :
    sortedFrom (lexB fun i => Angle.phi (nbr A b n 0 i) (nbr A b n 1 i)) = sortedFrom (lexB (Spec.key (nbr A b n))) := by
  have hf := fun c i => Spec.rel_finite (qry A b n) (pts A b) (fun c => hA b c n) (fun c j => hA b c j) c i
  refine congrArg sortedFrom (lexB_congr _ _ fun i j => ?_)
  obtain ⟨x, hx⟩ := hf 0 i
  obtain ⟨y, hy⟩ := hf 1 i
  obtain ⟨x', hx'⟩ := hf 0 j
  obtain ⟨y', hy'⟩ := hf 1 j
  have := Angle.phi_lt_iff x y x' y'
  rw [← hx, ← hy, ← hx', ← hy'] at this
  exact this

/-- The place, among the neighbours, of the one that comes `g`-th. -/
abbrev place (b : Fin 4) (n : Fin 4096) : Fin 8 → Fin 8 := sortedFrom (lexB (Spec.key (nbr A b n)))

include hA in
theorem v52_apply (b : Fin 4) (n : Fin 4096) (g : Fin 8) :
    val_main_v52 (F := Ideal) A (ix3 b n g) = BitVec.ofNat 32 (place A b n g).val := by
  unfold val_main_v52
  refine (sort2_last _ _ _ b n g).trans ?_
  have e : sortedFrom (fun p q : Fin 8 => comparator_f32_i32_d2 (F := Ideal) (val_main_v51 (F := Ideal) A (ix3 b n p), val_main_call3_v0 (F := Ideal) (ix3 b n p))
      (val_main_v51 (F := Ideal) A (ix3 b n q), val_main_call3_v0 (F := Ideal) (ix3 b n q)) == 1#1) = place A b n := by
    refine Eq.trans ?_ (order_eq A hA b n)
    refine sortedFrom_eq_lexB _ _ fun p q => ?_
    rw [comparator_eq, v51_apply A hA, v51_apply A hA]
  rw [e]
  pointwise [val_main_call3_v0]

include hA in
theorem call4_v4_apply (b : Fin 4) (n : Fin 4096) (g : Fin 8) (z : Fin 1) :
    val_main_call4_v4 (F := Ideal) A (ix4 b n g z) = BitVec.ofNat 32 (place A b n g).val := by
  refine Eq.trans ?_ (wrap_small (place A b n g) (by omega) (IntOp.addi (BitVec.ofNat 32 (place A b n g).val) 8#32))
  pointwise [val_main_call4_v4, val_main_call4_v3, val_main_call4_v2, val_main_call4_v1, val_main_call4_v0, val_main_call4_c,
    val_main_call4_c_0, val_main_v53]
  rw [v52_apply A hA]

/-- A fold that its operand leaves alone at every step ends where it began. -/
theorem reduce_const {s t u : Shape} {α : Type} {axes : List (Fin s.rank)} (f : α → α → α) (x : s.Idx → α) (init : u.Idx → α)
    (h : s.ReducesTo axes t) (hu : 0 < u.numel) (c e : α) (hi : ∀ i, init i = c) (hx : ∀ i, x i = e) (hf : f c e = c) (j : t.Idx) :
    Host.reduce f x init h hu j = c := by
  unfold Host.reduce
  rw [hi]
  generalize (List.finRange s.numel).filter _ = l
  induction l with
  | nil => rfl
  | cons a l ih => rw [List.foldl_cons, hx, hf]; exact ih

include hA in
/-- Every place is in range. -/
theorem inRange_apply (b : Fin 4) (n : Fin 4096) (g : Fin 8) : val_main_call4_v11 (F := Ideal) A (ix3 b n g) = 1#1 := by
  unfold val_main_call4_v11
  refine reduce_const _ _ _ _ _ 1#1 1#1 (fun _ => rfl) (fun i => ?_) rfl _
  obtain ⟨b, n, g, z, rfl⟩ : ∃ (b : Fin 4) (n : Fin 4096) (g : Fin 8) (z : Fin 1), i = ix4 b n g z :=
    ⟨i 0, i 1, i 2, i 3, by funext a; fin_cases a <;> rfl⟩
  have hp : ∀ p : Fin 8, IntOp.andi (IntOp.cmpi .sge (BitVec.ofNat 32 p.val) 0#32) (IntOp.cmpi .sle (BitVec.ofNat 32 p.val) 7#32) = 1#1 := by
    decide
  refine Eq.trans ?_ (hp (place A b n g))
  pointwise [val_main_call4_v10, val_main_call4_v9, val_main_call4_v8, val_main_call4_v7, val_main_call4_v6, val_main_call4_v5,
    val_main_call4_c_1, val_main_call4_c_2]
  rw [call4_v4_apply A hA]

theorem gather_place (x : FVec Ideal S4x4096x8x3 .f32) (idx : IVec S4x4096x8x1 32) (b : Fin 4) (n : Fin 4096) (g : Fin 8) (c : Fin 3) (p : Fin 8)
    (h : idx (ix4 b n g 0) = BitVec.ofNat 32 p.val) :
    Host.gather gather_S4x4096x8x3_S4x4096x8x1_S4x4096x8x3_3_2_01_01_2_3_1113 x idx (ix4 b n g c) = x (ix4 b n p c) := by
  unfold Host.gather
  refine congrArg x ?_
  set d := gather_S4x4096x8x3_S4x4096x8x1_S4x4096x8x3_3_2_01_01_2_3_1113 with hd
  funext a; apply Fin.ext
  show d.start (ix4 b n g c) idx a + d.batchCoord (ix4 b n g c) a + d.offCoord (ix4 b n g c) a = _
  have h4 : ∀ a : Fin 4, a = 0 ∨ a = 1 ∨ a = 2 ∨ a = 3 := by decide
  rcases h4 a with rfl | rfl | rfl | rfl
  · have hm : (0 : Fin 4) ∈ d.operandBatchingDims := (by decide : (0 : Fin 4) ∈ ([0, 1] : List (Fin 4)))
    rw [GatherDims.start_batching _ _ _ _ hm, GatherDims.offCoord_eq_zero _ _ _ (fun h => ((GatherDims.mem_sKept _ _).mp h).2 hm)]
    simp only [Nat.zero_add, Nat.add_zero]
    unfold GatherDims.batchCoord
    rw [dif_pos hm]
    rfl
  · have hm : (1 : Fin 4) ∈ d.operandBatchingDims := (by decide : (1 : Fin 4) ∈ ([0, 1] : List (Fin 4)))
    rw [GatherDims.start_batching _ _ _ _ hm, GatherDims.offCoord_eq_zero _ _ _ (fun h => ((GatherDims.mem_sKept _ _).mp h).2 hm)]
    simp only [Nat.zero_add, Nat.add_zero]
    unfold GatherDims.batchCoord
    rw [dif_pos hm]
    rfl
  · rw [GatherDims.batchCoord_eq_zero _ _ _ (show (2 : Fin 4) ∉ ([0, 1] : List (Fin 4)) by decide),
      GatherDims.offCoord_eq_zero _ _ _ (fun h => ((GatherDims.mem_sKept _ _).mp h).1 (List.mem_singleton.mpr rfl))]
    simp only [Nat.add_zero]
    unfold GatherDims.start
    rw [dif_pos (show (2 : Fin 4) ∈ d.startIndexMap from List.mem_singleton.mpr rfl)]
    have hsi : d.siIdx (ix4 b n g c) ⟨List.idxOf (2 : Fin 4) d.startIndexMap, List.idxOf_lt_length_iff.2 (List.mem_singleton.mpr rfl)⟩ = ix4 b n g 0 := by
      funext e; apply Fin.ext
      match e with
      | ⟨0, _⟩ => rfl
      | ⟨1, _⟩ => rfl
      | ⟨2, _⟩ => rfl
      | ⟨3, _⟩ => rfl
    refine (congrArg (fun w => min (BitVec.toInt w).toNat _) ((congrArg idx hsi).trans h)).trans ?_
    dsimp only
    rw [toInt_small p (by omega)]
    have := p.2
    show min p.val (8 - 1) = p.val
    omega
  · rw [GatherDims.batchCoord_eq_zero _ _ _ (show (3 : Fin 4) ∉ ([0, 1] : List (Fin 4)) by decide)]
    unfold GatherDims.start GatherDims.offCoord
    rw [dif_neg (show (3 : Fin 4) ∉ d.startIndexMap from (by decide : (3 : Fin 4) ∉ ([2] : List (Fin 4)))),
      dif_pos ((GatherDims.mem_sKept d 3).mpr ⟨show (3 : Fin 4) ∉ ([2] : List (Fin 4)) by decide, show (3 : Fin 4) ∉ ([0, 1] : List (Fin 4)) by decide⟩)]
    simp only [Nat.zero_add]
    rfl

/-- The neighbours in order, and the next of each. -/
abbrev srt (b : Fin 4) (n : Fin 4096) : Fin 3 → Fin 8 → EReal := Spec.srt (nbr A b n)

include hA in
theorem v54_apply (b : Fin 4) (n : Fin 4096) (g : Fin 8) (c : Fin 3) : val_main_v54 (F := Ideal) A (ix4 b n g c) = srt A b n c g := by
  have hg : val_main_call4_v12 (F := Ideal) A (ix4 b n g c) = srt A b n c g :=
    (gather_place _ _ b n g c _ (call4_v4_apply A hA b n g 0)).trans (v23_apply A hA b n _ c)
  pointwise [val_main_v54, val_main_call4_v13]
  rw [inRange_apply A hA, hg]
  rfl

include hA in
theorem v56_apply (b : Fin 4) (n : Fin 4096) (g : Fin 8) (z : Fin 1) (c : Fin 3) :
    val_main_v56 (F := Ideal) A (ix5 b n g z c) = Spec.rot (srt A b n) c g := by
  pointwise [val_main_v56, val_main_call5_v0, val_main_call5_v1, val_main_v55]
  simp only [v54_apply A hA]
  fin_cases g <;> rfl

end Cert.Proof.RFeat

end

end
-- ==== Proof.RTri.lean ====
/- The reference's features: the triangles, read down to their nine channels. -/
module

public import proofs.«01_k».proof.Proof.RFeat

@[expose] public section

noncomputable section

open Idealize.ShloMosaic Idealize.ShloMosaic.TcCoe
open Cert.ReferenceIdeal Cert.ReferenceIdeal.Read
open Cert.Proof.Order Cert.Proof.RKnn Cert.Proof.RFeat

namespace Cert.Proof.RTri

variable (A : S4x3x4096.Idx → EReal) (hA : ∀ b c j, ∃ r : ℝ, A (ix3 b c j) = (r : EReal))

include hA in
theorem v63_apply (b : Fin 4) (n : Fin 4096) (g : Fin 8) (c : Fin 3) : val_main_v63 (F := Ideal) A (ix4 b n g c) = srt A b n c g := by
  pointwise [val_main_v63, val_main_v62, val_main_v61, val_main_v60, val_main_v59, val_main_v58, val_main_v57, val_main_cst_12, val_main_v55]
  rw [v54_apply A hA]

include hA in
theorem v68_apply (b : Fin 4) (n : Fin 4096) (g : Fin 8) (c : Fin 3) :
    val_main_v68 (F := Ideal) A (ix4 b n g c) = Spec.rot (srt A b n) c g := by
  pointwise [val_main_v68, val_main_v67, val_main_v66, val_main_v65, val_main_v64, val_main_v58, val_main_v57, val_main_cst_12]
  rw [v56_apply A hA]

include hA in
theorem v93_apply (b : Fin 4) (n : Fin 4096) (g : Fin 8) (c : Fin 3) :
    val_main_v93 (F := Ideal) A (ix4 b n g c) = Spec.cross (srt A b n) c g := by
  pointwise [val_main_v93, val_main_v92, val_main_v91, val_main_v90, val_main_v89, val_main_v88, val_main_v87, val_main_v86, val_main_v85,
    val_main_v84, val_main_v83, val_main_v82, val_main_v81, val_main_v80, val_main_v79, val_main_v78, val_main_v77, val_main_v76,
    val_main_v75, val_main_v74, val_main_v73, val_main_v72, val_main_v71, val_main_v70, val_main_v69]
  simp only [v63_apply A hA, v68_apply A hA]
  fin_cases c <;> rfl

include hA in
theorem v96_apply (b : Fin 4) (n : Fin 4096) (g : Fin 8) (c : Fin 3) :
    val_main_v96 (F := Ideal) A (ix4 b n g c) = Spec.unit (srt A b n) c g := by
  pointwise [val_main_v96, val_main_v95, val_main_v94, val_main_call6_v2, val_main_call6_v1, val_main_call6_cst, val_main_call6_v0]
  simp only [v93_apply A hA, Fin.sum_univ_three]
  rfl

theorem uitofp_one : FloatOps.uitofp (F := Ideal) .f32 1#1 = (1 : EReal) := by
  show (((1#1 : BitVec 1).toNat : ℝ) : EReal) = 1
  simp
theorem uitofp_zero : FloatOps.uitofp (F := Ideal) .f32 0#1 = (0 : EReal) := by
  show (((0#1 : BitVec 1).toNat : ℝ) : EReal) = 0
  simp
theorem ofBits_zero : Ideal.ofBits .f32 0x00000000#32 = 0 := by simp [Ideal.ofBits, Ideal.ieee]

theorem turn_pos : (2 : EReal) - 1 = 1 := by
  show ((2 : ℝ) : EReal) - ((1 : ℝ) : EReal) = ((1 : ℝ) : EReal)
  rw [← EReal.coe_sub]; norm_num

theorem turn_neg : (0 : EReal) * 2 - 1 = -1 := by rw [zero_mul, zero_sub]

include hA in
theorem v108_apply (b : Fin 4) (n : Fin 4096) (g : Fin 8) (c : Fin 3) :
    val_main_v108 (F := Ideal) A (ix4 b n g c) = Spec.normal (srt A b n) c g := by
  pointwise [val_main_v108, val_main_v107, val_main_v106, val_main_v105, val_main_v104, val_main_cst_15, val_main_v103, val_main_v102,
    val_main_cst_14, val_main_v101, val_main_v100, val_main_v99, val_main_cst_13, val_main_v98, val_main_v97]
  rw [v96_apply A hA, v96_apply A hA]
  unfold Spec.normal
  by_cases h : 0 < Spec.unit (srt A b n) 0 0
  · simp [h, ofBits_two, uitofp_one, turn_pos]
  · simp [h, ofBits_two, uitofp_zero]

include hA in
theorem v111_apply (b : Fin 4) (n : Fin 4096) (g : Fin 8) (c : Fin 3) :
    val_main_v111 (F := Ideal) A (ix4 b n g c) = Spec.ctr (srt A b n) c g := by
  pointwise [val_main_v111, val_main_v110, val_main_cst_17, val_main_v109, val_main_cst_16, val_main_v58, val_main_v57, val_main_cst_12, val_main_v55]
  simp only [Fin.sum_univ_three, v54_apply A hA, v56_apply A hA, ofBits_three]
  simp
  rfl

include hA in
theorem v115_apply (b : Fin 4) (n : Fin 4096) (g : Fin 8) (z : Fin 1) :
    val_main_v115 (F := Ideal) A (ix4 b n g z) = Spec.rho (srt A b n) g := by
  pointwise [val_main_v115, val_main_v114, val_main_v113, val_main_cst_18, val_main_v112]
  simp only [v111_apply A hA, Fin.sum_univ_three]
  rfl

include hA in
theorem v121_apply (b : Fin 4) (n : Fin 4096) (g : Fin 8) (z : Fin 1) :
    val_main_v121 (F := Ideal) A (ix4 b n g z) = Spec.ratio (srt A b n) g := by
  pointwise [val_main_v121, val_main_call8_v4, val_main_call8_v3, val_main_cst_22, val_main_call8_v2, val_main_call8_v1, val_main_call8_v0,
    val_main_cst_21, val_main_v120, val_main_v119, val_main_v118, val_main_call7_v1, val_main_call7_v0, val_main_cst_20, val_main_v117,
    val_main_v116, val_main_cst_19]
  simp only [v111_apply A hA, v115_apply A hA, ofBits_one, ofBits_neg_one]
  show min (Ideal.ofBits .f32 0x3F800000#32) (max (Ideal.ofBits .f32 0xBF800000#32) (Ideal.div (Spec.ctr (srt A b n) 2 g)
    (if Spec.rho (srt A b n) g = 0 then Ideal.ofBits .f32 0x3F800000#32 else Spec.rho (srt A b n) g))) = _
  rw [ofBits_one, ofBits_neg_one]
  rfl

theorem ratio_bounds (s : Fin 3 → Fin 8 → EReal) (g : Fin 8) : -1 ≤ Spec.ratio s g ∧ Spec.ratio s g ≤ 1 := by
  unfold Spec.ratio
  refine ⟨le_min ?_ (le_max_left _ _), min_le_left _ _⟩
  show ((-1 : ℝ) : EReal) ≤ ((1 : ℝ) : EReal)
  rw [EReal.coe_le_coe_iff]; norm_num

include hA in
theorem v131_apply (b : Fin 4) (n : Fin 4096) (g : Fin 8) (z : Fin 1) :
    val_main_v131 (F := Ideal) A (ix4 b n g z) = Spec.theta (srt A b n) g := by
  pointwise [val_main_v131, val_main_v130, val_main_v129, val_main_cst_25, val_main_v125, val_main_call9_v1, val_main_call9_v0, val_main_cst_24,
    val_main_v124, val_main_v123, val_main_v122, val_main_cst_23]
  simp only [v115_apply A hA, v121_apply A hA, ofBits_neg_one, acos_neg_one]
  rw [Angle.acos_eq _ (ratio_bounds _ _).1 (ratio_bounds _ _).2, Ideal.div_coe Real.pi_ne_zero, one_div]
  show (if Spec.rho (srt A b n) g = 0 then Ideal.ofBits .f32 0x00000000#32 else _) * _ = _
  rw [ofBits_zero]
  rfl

include hA in
theorem v136_apply (b : Fin 4) (n : Fin 4096) (g : Fin 8) (z : Fin 1) :
    val_main_v136 (F := Ideal) A (ix4 b n g z) = Spec.phi (srt A b n) g := by
  pointwise [val_main_v136, val_main_v135, val_main_cst_27, val_main_v134, val_main_v133, val_main_v132, val_main_cst_26, val_main_v129,
    val_main_cst_25, val_main_v128, val_main_v127, val_main_v126]
  simp only [v111_apply A hA, ofBits_neg_one, acos_neg_one, ofBits_two, ofBits_half, two_pi]
  rw [Ideal.div_coe (show 2 * Real.pi ≠ 0 from mul_ne_zero two_ne_zero Real.pi_ne_zero), one_div]
  rfl

/-- No coordinate of a normal differs from itself, so no triangle is marked. -/
theorem mark_apply (b : Fin 4) (n : Fin 4096) (g : Fin 8) : val_main_v142 (F := Ideal) A (ix3 b n g) = 0#1 := by
  have h : val_main_v140 (F := Ideal) A (ix3 b n g) = 0#32 := by
    unfold val_main_v140
    refine reduce_const _ _ _ _ _ 0#32 0#32 (fun _ => rfl) (fun i => ?_) rfl _
    show (BitVec.ofBool (decide (val_main_v108 (F := Ideal) A i ≠ val_main_v108 (F := Ideal) A i))).setWidth 32 = 0#32
    simp
  pointwise [val_main_v142, val_main_v141, val_main_c_29]
  rw [h]
  rfl

include hA in
/-- The reference's features are the features. -/
theorem v158_apply (b : Fin 4) (k : Fin 9) (g : Fin 8) (n : Fin 4096) :
    val_main_v158 (F := Ideal) A (ix4 b k g n) = Spec.feat (qry A b n) (pts A b) k g := by
  have h153 : ∀ c, val_main_v153 (F := Ideal) A (ix4 b n g c) = Spec.normal (srt A b n) c g := by
    intro c
    pointwise [val_main_v153, val_main_call13_v0, val_main_v151]
    rw [mark_apply A, v108_apply A hA]
    rfl
  have h156 : ∀ c, val_main_v156 (F := Ideal) A (ix4 b n g c) = Spec.ctr (srt A b n) c g := by
    intro c
    pointwise [val_main_v156, val_main_call14_v0, val_main_v154]
    rw [mark_apply A, v111_apply A hA]
    rfl
  have h137 : ∀ c, val_main_v137 (F := Ideal) A (ix4 b n g c)
      = match c with | 0 => Spec.rho (srt A b n) g | 1 => Spec.theta (srt A b n) g | 2 => Spec.phi (srt A b n) g := by
    intro c
    pointwise [val_main_v137]
    simp only [v115_apply A hA, v131_apply A hA, v136_apply A hA]
    fin_cases c <;> rfl
  pointwise [val_main_v158, val_main_v157]
  simp only [h153, h156, h137]
  fin_cases k <;> rfl

end Cert.Proof.RTri

end

end
-- ==== Proof.RNet.lean ====
/- The network of the reference: the two normalised rounds, the third linear map and the sum over the neighbours. -/
module

public import proofs.«01_k».proof.Proof.Gen.ReferenceIdeal.Read
public import proofs.«01_k».proof.Proof.Net
public import Idealize.ShloMosaic.Lib.IdealHost
public import Idealize.ShloMosaic.Lib.Pointwise

@[expose] public section

noncomputable section

open Idealize.ShloMosaic Idealize.ShloMosaic.TcCoe
open Cert.ReferenceIdeal Cert.ReferenceIdeal.Gen Cert.ReferenceIdeal.Read

namespace Cert.Proof.RNet

/-- A point of the network: a batch, a triangle and a point of the cloud. -/
abbrev Pt := Fin 4 × Fin 8 × Fin 4096

/-- An array of the network read by channel and point. -/
def chan (x : S4x9x8x4096.Idx → EReal) (o : Fin 9) (q : Pt) : EReal := x (ix4 q.1 o q.2.1 q.2.2)

theorem drop_eq (b : Fin 4) (o : Fin 9) (g : Fin 8) (n : Fin 4096) :
    reducesTo_S4x9x8x4096_S9_d0_2_3.drop (ix4 b o g n) = ix1 o := by
  funext a; fin_cases a; rfl

/-- The sum over batches, triangles and points is one sum over the points of the network. -/
theorem sum_apply (x : FVec Ideal S4x9x8x4096 .f32) (init : FVec Ideal S_ .f32)
    (hi : init (Shape.Idx.first h_S_) = (0 : EReal)) (o : Fin 9) :
    Host.reduceAdd x init reducesTo_S4x9x8x4096_S9_d0_2_3 h_S_ (ix1 o) = ∑ q : Pt, chan x o q := by
  rw [ValueIdx.hostReduceAdd_apply, hi]
  unfold Ideal.hostReduceAdd
  rw [zero_add]
  have hx : ∀ i : S4x9x8x4096.Idx, ∃ (b : Fin 4) (o : Fin 9) (g : Fin 8) (n : Fin 4096), i = ix4 b o g n := fun i =>
    ⟨i 0, i 1, i 2, i 3, by funext a; fin_cases a <;> rfl⟩
  have hd : ∀ (b : Fin 4) (o' : Fin 9) (g : Fin 8) (n : Fin 4096),
      reducesTo_S4x9x8x4096_S9_d0_2_3.drop (ix4 b o' g n) = ix1 o → o' = o := fun b o' g n h => by
    rw [drop_eq] at h; exact congrFun h 0
  refine Finset.sum_bij' (fun i _ => ((i 0, i 2, i 3) : Pt)) (fun q _ => ix4 q.1 o q.2.1 q.2.2)
    (fun _ _ => Finset.mem_univ _) (fun q _ => ?_) (fun i hm => ?_) (fun q _ => rfl) (fun i hm => ?_)
  · exact Finset.mem_filter.2 ⟨Finset.mem_univ _, drop_eq _ _ _ _⟩
  · obtain ⟨b, o', g, n, rfl⟩ := hx i
    rw [← hd b o' g n (Finset.mem_filter.1 hm).2]; rfl
  · obtain ⟨b, o', g, n, rfl⟩ := hx i
    rw [← hd b o' g n (Finset.mem_filter.1 hm).2]; rfl

variable (A : FVec Ideal S4x3x4096 .f32) (w1 w2 w3 : FVec Ideal S9x9 .f32) (g1 b1 c2 g2 b2 c3 : FVec Ideal S9 .f32)

/-- A nine-by-nine array of weights. -/
abbrev mat (w : S9x9.Idx → EReal) (o c : Fin 9) : EReal := w (ix2 o c)

/-- One number per channel. -/
abbrev vec (v : S9.Idx → EReal) (o : Fin 9) : EReal := v (ix1 o)

theorem v160_chan : chan (val_main_v160 (F := Ideal) A w1) = Net.conv (mat w1) (chan (val_main_v158 (F := Ideal) A)) := by
  funext o q
  unfold chan
  pointwise [val_main_v160, val_main_v159]
  exact Finset.sum_congr rfl fun c _ => mul_comm _ _

theorem v164_apply (i k l : Fin 1) (o : Fin 9) :
    val_main_v164 (F := Ideal) A w1 (ix4 i o k l) = Net.mean (chan (val_main_v160 (F := Ideal) A w1)) o := by
  pointwise [val_main_v164, val_main_v163, val_main_cst_31, val_main_v162]
  unfold val_main_v161
  rw [sum_apply _ _ (by pointwise [val_main_cst_30])]
  rfl

theorem v171_apply (i k l : Fin 1) (o : Fin 9) :
    val_main_v171 (F := Ideal) A w1 (ix4 i o k l) = Net.var (chan (val_main_v160 (F := Ideal) A w1)) o := by
  pointwise [val_main_v171, val_main_v170, val_main_cst_33, val_main_v169]
  unfold val_main_v168
  rw [sum_apply _ _ (by pointwise [val_main_cst_32])]
  unfold Net.var Net.mean
  refine congrArg (fun u : EReal => Ideal.div u (Ideal.ofBits .f32 0x48000000#32)) (Finset.sum_congr rfl fun q _ => ?_)
  unfold chan
  pointwise [val_main_v167, val_main_v166, val_main_v165]
  rw [v164_apply]; rfl

theorem v185_chan : chan (val_main_v185 (F := Ideal) A w1 g1 b1)
    = Net.bnr (chan (val_main_v160 (F := Ideal) A w1)) (vec g1) (vec b1) := by
  funext o q
  unfold chan
  pointwise [val_main_v185, val_main_call15_v0, val_main_call15_cst, val_main_v184, val_main_v183, val_main_v182, val_main_v181,
    val_main_v180, val_main_v179, val_main_v178, val_main_v177, val_main_v176, val_main_v175, val_main_v174, val_main_cst_34,
    val_main_v173, val_main_v172]
  rw [v164_apply, v171_apply]
  rfl

theorem v190_chan : chan (val_main_v190 (F := Ideal) A w1 g1 b1 w2 c2)
    = fun o q => Net.conv (mat w2) (chan (val_main_v185 (F := Ideal) A w1 g1 b1)) o q + vec c2 o := by
  funext o q
  unfold chan
  pointwise [val_main_v190, val_main_v189, val_main_v188, val_main_v187, val_main_v186]
  exact congrArg (fun u : EReal => u + c2 (ix1 o)) (Finset.sum_congr rfl fun c _ => mul_comm _ _)

theorem v194_apply (i k l : Fin 1) (o : Fin 9) :
    val_main_v194 (F := Ideal) A w1 g1 b1 w2 c2 (ix4 i o k l) = Net.mean (chan (val_main_v190 (F := Ideal) A w1 g1 b1 w2 c2)) o := by
  pointwise [val_main_v194, val_main_v193, val_main_cst_36, val_main_v192]
  unfold val_main_v191
  rw [sum_apply _ _ (by pointwise [val_main_cst_35])]
  rfl

theorem v201_apply (i k l : Fin 1) (o : Fin 9) :
    val_main_v201 (F := Ideal) A w1 g1 b1 w2 c2 (ix4 i o k l) = Net.var (chan (val_main_v190 (F := Ideal) A w1 g1 b1 w2 c2)) o := by
  pointwise [val_main_v201, val_main_v200, val_main_cst_38, val_main_v199]
  unfold val_main_v198
  rw [sum_apply _ _ (by pointwise [val_main_cst_37])]
  unfold Net.var Net.mean
  refine congrArg (fun u : EReal => Ideal.div u (Ideal.ofBits .f32 0x48000000#32)) (Finset.sum_congr rfl fun q _ => ?_)
  unfold chan
  pointwise [val_main_v197, val_main_v196, val_main_v195]
  rw [v194_apply]
  rfl

theorem v215_chan : chan (val_main_v215 (F := Ideal) A w1 g1 b1 w2 c2 g2 b2)
    = Net.bnr (chan (val_main_v190 (F := Ideal) A w1 g1 b1 w2 c2)) (vec g2) (vec b2) := by
  funext o q
  unfold chan
  pointwise [val_main_v215, val_main_call16_v0, val_main_call16_cst, val_main_v214, val_main_v213, val_main_v212, val_main_v211,
    val_main_v210, val_main_v209, val_main_v208, val_main_v207, val_main_v206, val_main_v205, val_main_v204, val_main_cst_39,
    val_main_v203, val_main_v202]
  rw [v194_apply, v201_apply]
  rfl

theorem v220_chan : chan (val_main_v220 (F := Ideal) A w1 g1 b1 w2 c2 g2 b2 w3 c3)
    = Net.net (chan (val_main_v158 (F := Ideal) A)) (mat w1) (vec g1) (vec b1) (mat w2) (vec c2) (vec g2) (vec b2) (mat w3) (vec c3) := by
  have h : chan (val_main_v220 (F := Ideal) A w1 g1 b1 w2 c2 g2 b2 w3 c3)
      = fun o q => Net.conv (mat w3) (chan (val_main_v215 (F := Ideal) A w1 g1 b1 w2 c2 g2 b2)) o q + vec c3 o := by
    funext o q
    unfold chan
    pointwise [val_main_v220, val_main_v219, val_main_v218, val_main_v217, val_main_v216]
    exact congrArg (fun u : EReal => u + c3 (ix1 o)) (Finset.sum_congr rfl fun c _ => mul_comm _ _)
  rw [h, v215_chan, v190_chan, v185_chan, v160_chan]
  rfl

/-- The reference's result: the network summed over the triangles. -/
theorem v221_apply (b : Fin 4) (o : Fin 9) (n : Fin 4096) :
    val_main_v221 (F := Ideal) A w1 g1 b1 w2 c2 g2 b2 w3 c3 (ix3 b o n)
      = ∑ g, Net.net (chan (val_main_v158 (F := Ideal) A)) (mat w1) (vec g1) (vec b1) (mat w2) (vec c2) (vec g2) (vec b2)
          (mat w3) (vec c3) o (b, g, n) := by
  rw [← v220_chan]
  unfold chan
  pointwise [val_main_v221, val_main_cst_40]

end Cert.Proof.RNet

end

end
-- ==== Proof.Alg.lean ====
/- The kernel and the reference end with the same array. -/
module

public import proofs.«01_k».proof.Defs
public import proofs.«01_k».proof.Proof.Gen.Pre_finite_points
public import proofs.«01_k».proof.Proof.Gen.ReferenceIdeal.Run
public import proofs.«01_k».proof.Proof.KRun
public import proofs.«01_k».proof.Proof.KVal
public import proofs.«01_k».proof.Proof.RTri
public import proofs.«01_k».proof.Proof.RNet

@[expose] public section

noncomputable section

open Idealize.ShloMosaic Idealize.ShloMosaic.TcCoe Idealize.SL.Sem

namespace Cert.Proof.Alg

/-- A conjunction over a list that comes out true has every member true. -/
theorem foldl_and {α : Type} (x : α → BitVec 1) (l : List α) (a : BitVec 1)
    (h : l.foldl (fun a i => IntOp.andi a (x i)) a = 1#1) : a = 1#1 ∧ ∀ i ∈ l, x i = 1#1 := by
  have hand : ∀ u v : BitVec 1, IntOp.andi u v = 1#1 → u = 1#1 ∧ v = 1#1 := by decide
  induction l generalizing a with
  | nil => exact ⟨h, fun i hi => absurd hi List.not_mem_nil⟩
  | cons b l ih =>
    obtain ⟨h1, h2⟩ := ih _ h
    obtain ⟨h3, h4⟩ := hand _ _ h1
    refine ⟨h3, fun i hi => ?_⟩
    rcases List.mem_cons.1 hi with rfl | hi
    · exact h4
    · exact h2 i hi

theorem ofBits_inf : Ideal.ofBits .f32 0x7F800000#32 = ⊤ := by simp [Ideal.ofBits, Ideal.ieee]

/-- The precondition says of every coordinate that it is a real number. -/
theorem finite (A : Cert.Pre_finite_points.S4x3x4096.Idx → EReal) (a1 a4 a8 : Cert.Pre_finite_points.S9x9.Idx → EReal)
    (a2 a3 a5 a6 a7 a9 : Cert.Pre_finite_points.S9.Idx → EReal)
    (h : ∀ i, Cert.Pre_finite_points.fn (F := Ideal) A a1 a2 a3 a4 a5 a6 a7 a8 a9 i = 1#1)
    (b : Fin 4) (k : Fin 3) (j : Fin 4096) : ∃ r : ℝ, A (ix3 b k j) = (r : EReal) := by
  have h0 := h ix0
  unfold Cert.Pre_finite_points.fn at h0
  dsimp only at h0
  unfold Host.reduce at h0
  have h1 := (foldl_and _ _ _ h0).2
  have h2 := h1 (Cert.Pre_finite_points.S4x3x4096.rowMajor (ix3 b k j))
    (List.mem_filter.2 ⟨List.mem_finRange _, decide_eq_true (funext fun a => a.elim0)⟩)
  rw [Equiv.symm_apply_apply] at h2
  pointwise at h2
  refine Spec.coe_of_finite _ ?_
  have h3 : ∀ p : Prop, ∀ [Decidable p], BitVec.ofBool (decide p) = 1#1 → p := fun p _ h => by
    by_cases hp : p
    · exact hp
    · simp [hp] at h
  have h4 := h3 _ h2
  rw [ofBits_inf] at h4
  exact h4

/-- The reference's array is the kernel's, where the points are real. -/
theorem value (A : Cert.ReferenceIdeal.S4x3x4096.Idx → EReal) (w1 w2 w3 : Cert.ReferenceIdeal.S9x9.Idx → EReal)
    (g1 b1 c2 g2 b2 c3 : Cert.ReferenceIdeal.S9.Idx → EReal) (hA : ∀ b k j, ∃ r : ℝ, A (ix3 b k j) = (r : EReal)) :
    Cert.ReferenceIdeal.Read.val_main_v221 (F := Ideal) A w1 g1 b1 w2 c2 g2 b2 w3 c3
      = KVal.result A w1 g1 b1 w2 c2 g2 b2 w3 c3 := by
  have hx : RNet.chan (Cert.ReferenceIdeal.Read.val_main_v158 (F := Ideal) A)
      = fun k (q : RNet.Pt) => KArr.feats A k q.1 q.2.1 q.2.2 := by
    funext k q
    exact RTri.v158_apply A hA q.1 k q.2.1 q.2.2
  funext y
  obtain ⟨b, o, n, rfl⟩ : ∃ (b : Fin 4) (o : Fin 9) (n : Fin 4096), y = ix3 b o n :=
    ⟨y 0, y 1, y 2, by funext a; fin_cases a <;> rfl⟩
  rw [RNet.v221_apply, hx]
  rfl

theorem algebraic : Cert.algebraic_KernelIdeal_ReferenceIdeal_pre_finite_points := by
  intro m ρ m' ρ' hpre hagree
  have hA : ∀ (c : Dev Cert.KernelIdeal.nD) (b : Fin 4) (k : Fin 3) (j : Fin 4096), ∃ r : ℝ,
      (m ((c.tc : Thread Cert.KernelIdeal.nD Cert.KernelIdeal.τ).loc Cert.KernelIdeal.main_arg0)
        : Cert.KernelIdeal.S4x3x4096.Idx → EReal) (ix3 b k j) = (r : EReal) := fun c b k j =>
    finite _ _ _ _ _ _ _ _ _ _ (fun i => congrFun (hpre c) i) b k j
  refine ⟨fun c => KVal.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · refine (θ_run Cert.KernelIdeal.defs _ _).mono (fun _ h c => ⟨(h c).1.trans ?_, (h c).2⟩) (Cert.KernelIdeal.Gen.run_main m ρ)
    exact KVal.W3_v8 m ρ c (hA c)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9⟩ := hagree c
    refine (Cert.ReferenceIdeal.Read.val_main_v221_eq (F := Ideal) (StableHlo.launchContents m' c)).trans ?_
    show Cert.ReferenceIdeal.Read.val_main_v221 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) = _
    rw [e0, e1, e2, e3, e4, e5, e6, e7, e8, e9]
    exact value _ _ _ _ _ _ _ _ _ _ (hA c)

end Cert.Proof.Alg

end

end
-- ==== Proof.lean ====
/- The proof of the claims: the frames and the named constants, and the equality of the kernel's result with the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_points
public import proofs.«01_k».proof.Proof.Frames
public import proofs.«01_k».proof.Proof.Alg
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_points.Gen.facts,
  Frames.frame_p, Frames.frame_pi, Frames.frame_pi_pre, Frames.frame_ri, Frames.frame_ri_pre, Frames.preserves, Alg.algebraic⟩

end Cert.Proof

end
